-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x4096x3584 : Shape := ⟨3, ![8, 4096, 3584]⟩
abbrev S8x4096x1 : Shape := ⟨3, ![8, 4096, 1]⟩
abbrev S3584x14336 : Shape := ⟨2, ![3584, 14336]⟩
abbrev S1x14336 : Shape := ⟨2, ![1, 14336]⟩
abbrev S32768x3584 : Shape := ⟨2, ![32768, 3584]⟩
abbrev S32768x1 : Shape := ⟨2, ![32768, 1]⟩
abbrev S32768x14336 : Shape := ⟨2, ![32768, 14336]⟩
abbrev S512x3584 : Shape := ⟨2, ![512, 3584]⟩
abbrev S512x1 : Shape := ⟨2, ![512, 1]⟩
abbrev S3584x2048 : Shape := ⟨2, ![3584, 2048]⟩
abbrev S1x2048 : Shape := ⟨2, ![1, 2048]⟩
abbrev S512x2048 : Shape := ⟨2, ![512, 2048]⟩
abbrev S7x512x2048 : Shape := ⟨3, ![7, 512, 2048]⟩
abbrev S512x128 : Shape := ⟨2, ![512, 128]⟩
abbrev S3584x512 : Shape := ⟨2, ![3584, 512]⟩
abbrev S512x512 : Shape := ⟨2, ![512, 512]⟩
abbrev S1x512 : Shape := ⟨2, ![1, 512]⟩
abbrev S1x512x512 : Shape := ⟨3, ![1, 512, 512]⟩
abbrev S512 : Shape := ⟨1, ![512]⟩

abbrev nBuf : Space → Nat
  | .hbm => 8
  | .vmem => 16
  | .smem => 0
  | _ => 0

abbrev bufTy : (tb : Table) → Fin (tcTables nBuf tb) → BufTy
  | .hbm, ⟨0, _⟩ => ⟨S8x4096x3584, .fp8e4m3⟩
  | .hbm, ⟨1, _⟩ => ⟨S8x4096x1, .f32⟩
  | .hbm, ⟨2, _⟩ => ⟨S3584x14336, .fp8e4m3⟩
  | .hbm, ⟨3, _⟩ => ⟨S1x14336, .f32⟩
  | .hbm, ⟨4, _⟩ => ⟨S32768x3584, .fp8e4m3⟩
  | .hbm, ⟨5, _⟩ => ⟨S32768x1, .f32⟩
  | .hbm, ⟨6, _⟩ => ⟨S32768x1, .f32⟩
  | .hbm, ⟨7, _⟩ => ⟨S32768x14336, .fp8e4m3⟩
  | .local _ .vmem, ⟨0, _⟩ => ⟨S512x3584, .fp8e4m3⟩
  | .local _ .vmem, ⟨1, _⟩ => ⟨S512x3584, .fp8e4m3⟩
  | .local _ .vmem, ⟨2, _⟩ => ⟨S512x1, .f32⟩
  | .local _ .vmem, ⟨3, _⟩ => ⟨S512x1, .f32⟩
  | .local _ .vmem, ⟨4, _⟩ => ⟨S3584x2048, .fp8e4m3⟩
  | .local _ .vmem, ⟨5, _⟩ => ⟨S3584x2048, .fp8e4m3⟩
  | .local _ .vmem, ⟨6, _⟩ => ⟨S1x2048, .f32⟩
  | .local _ .vmem, ⟨7, _⟩ => ⟨S1x2048, .f32⟩
  | .local _ .vmem, ⟨8, _⟩ => ⟨S512x1, .f32⟩
  | .local _ .vmem, ⟨9, _⟩ => ⟨S512x1, .f32⟩
  | .local _ .vmem, ⟨10, _⟩ => ⟨S512x2048, .fp8e4m3⟩
  | .local _ .vmem, ⟨11, _⟩ => ⟨S512x2048, .fp8e4m3⟩
  | .local _ .vmem, ⟨12, _⟩ => ⟨S7x512x2048, .f32⟩
  | .local _ .vmem, ⟨13, _⟩ => ⟨S512x128, .f32⟩
  | .local _ .vmem, ⟨14, _⟩ => ⟨S512x1, .f32⟩
  | .local _ .vmem, ⟨15, _⟩ => ⟨S512x1, .f32⟩
  | _, _ => ⟨S8x4096x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![65, 7], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg1 : BitVec 32 := BitVec.ofNat 32 (i 1).val
  let v27 : Index := Scalar.indexCast arg1
  let c0_14 : Index := 0#32
  let c0_15 : Index := 0#32
  ![v27.toNat, 0, 0]
def k0_off2 (i : grid0.Coords) : Fin 3 → Nat :=
  let arg1 : BitVec 32 := BitVec.ofNat 32 (i 1).val
  let v48 : Index := Scalar.indexCast arg1
  let c0_22 : Index := 0#32
  let c512_23 : Index := 512#32
  ![v48.toNat, 0, 512]
def k0_off3 (i : grid0.Coords) : Fin 3 → Nat :=
  let arg1 : BitVec 32 := BitVec.ofNat 32 (i 1).val
  let v70 : Index := Scalar.indexCast arg1
  let c0_30 : Index := 0#32
  let c1024_31 : Index := 1024#32
  ![v70.toNat, 0, 1024]
def k0_off4 (i : grid0.Coords) : Fin 3 → Nat :=
  let arg1 : BitVec 32 := BitVec.ofNat 32 (i 1).val
  let v92 : Index := Scalar.indexCast arg1
  let c0_38 : Index := 0#32
  let c1536_39 : Index := 1536#32
  ![v92.toNat, 0, 1536]
def k0_cond4 (i : grid0.Coords) : BitVec 1 :=
  let arg0 : BitVec 32 := BitVec.ofNat 32 (i 0).val
  let c0_i32_1 : BitVec 32 := 0#32
  let v3 : BitVec 1 := Scalar.cmpi .sgt arg0 c0_i32_1
  let c64_i32 : BitVec 32 := 64#32
  let v4 : BitVec 1 := Scalar.cmpi .slt arg0 c64_i32
  let v5 : BitVec 1 := Scalar.andi v3 v4
  let v6 : BitVec 32 := Scalar.extui v5
  let c0_i32_2 : BitVec 32 := 0#32
  let v7 : BitVec 1 := Scalar.cmpi .ne v6 c0_i32_2
  v7

def k0_off5 (i : grid0.Coords) : Fin 3 → Nat :=
  let arg1 : BitVec 32 := BitVec.ofNat 32 (i 1).val
  let v21 : Index := Scalar.indexCast arg1
  let c0_14 : Index := 0#32
  let c0_15 : Index := 0#32
  ![v21.toNat, 0, 0]
def k0_off6 (i : grid0.Coords) : Fin 3 → Nat :=
  let arg1 : BitVec 32 := BitVec.ofNat 32 (i 1).val
  let v53 : Index := Scalar.indexCast arg1
  let c0_28 : Index := 0#32
  let c512 : Index := 512#32
  ![v53.toNat, 0, 512]
def k0_off7 (i : grid0.Coords) : Fin 3 → Nat :=
  let arg1 : BitVec 32 := BitVec.ofNat 32 (i 1).val
  let v86 : Index := Scalar.indexCast arg1
  let c0_42 : Index := 0#32
  let c1024 : Index := 1024#32
  ![v86.toNat, 0, 1024]
def k0_off8 (i : grid0.Coords) : Fin 3 → Nat :=
  let arg1 : BitVec 32 := BitVec.ofNat 32 (i 1).val
  let v119 : Index := Scalar.indexCast arg1
  let c0_56 : Index := 0#32
  let c1536 : Index := 1536#32
  ![v119.toNat, 0, 1536]
def k0_cond7 (i : grid0.Coords) : BitVec 1 :=
  let arg0 : BitVec 32 := BitVec.ofNat 32 (i 0).val
  let c64_i32_3 : BitVec 32 := 64#32
  let v8 : BitVec 1 := Scalar.cmpi .eq arg0 c64_i32_3
  let v9 : BitVec 32 := Scalar.extui v8
  let c0_i32_4 : BitVec 32 := 0#32
  let v10 : BitVec 1 := Scalar.cmpi .ne v9 c0_i32_4
  v10

def k0_off9 (i : grid0.Coords) : Fin 3 → Nat :=
  let arg1 : BitVec 32 := BitVec.ofNat 32 (i 1).val
  let v19 : Index := Scalar.indexCast arg1
  let c0_12 : Index := 0#32
  let c0_13 : Index := 0#32
  ![v19.toNat, 0, 0]
def k0_off10 (i : grid0.Coords) : Fin 3 → Nat :=
  let arg1 : BitVec 32 := BitVec.ofNat 32 (i 1).val
  let v30 : Index := Scalar.indexCast arg1
  let c0_17 : Index := 0#32
  let c512 : Index := 512#32
  ![v30.toNat, 0, 512]
def k0_off11 (i : grid0.Coords) : Fin 3 → Nat :=
  let arg1 : BitVec 32 := BitVec.ofNat 32 (i 1).val
  let v41 : Index := Scalar.indexCast arg1
  let c0_22 : Index := 0#32
  let c1024 : Index := 1024#32
  ![v41.toNat, 0, 1024]
def k0_off12 (i : grid0.Coords) : Fin 3 → Nat :=
  let arg1 : BitVec 32 := BitVec.ofNat 32 (i 1).val
  let v52 : Index := Scalar.indexCast arg1
  let c0_27 : Index := 0#32
  let c1536 : Index := 1536#32
  ![v52.toNat, 0, 1536]
def cc0_transform_0 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 1 := Scalar.cmpi .sgt arg0 c63_i32
  let c6_i32 : BitVec 32 := 6#32
  let v1 : BitVec 32 := Scalar.select v0 c6_i32 arg1
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 1 := Scalar.cmpi .sgt arg0 c63_i32
  let c6_i32 : BitVec 32 := 6#32
  let v1 : BitVec 32 := Scalar.select v0 c6_i32 arg1
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .eq arg0 c0_i32_0
  let c0_i32_1 : BitVec 32 := 0#32
  let v3 : BitVec 32 := Scalar.select v2 c0_i32_1 arg1
  let c0_i32_2 : BitVec 32 := 0#32
  ![v1.toNat, v3.toNat]

abbrev stage0_0 : Fin 2 → Memref sig .tc .vmem S512x3584 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S3584x2048 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2048 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S8x4096x3584 : Shape := ⟨3, ![8, 4096, 3584]⟩
abbrev S8x4096x1 : Shape := ⟨3, ![8, 4096, 1]⟩
abbrev S3584x14336 : Shape := ⟨2, ![3584, 14336]⟩
abbrev S1x14336 : Shape := ⟨2, ![1, 14336]⟩
abbrev S32768x3584 : Shape := ⟨2, ![32768, 3584]⟩
abbrev S32768x1 : Shape := ⟨2, ![32768, 1]⟩
abbrev S32768x14336 : Shape := ⟨2, ![32768, 14336]⟩
abbrev S32768 : Shape := ⟨1, ![32768]⟩

abbrev nBuf : Space → Nat
  | .hbm => 8
  | .vmem => 6
  | .smem => 0
  | _ => 0

abbrev bufTy : (tb : Table) → Fin (tcTables nBuf tb) → BufTy
  | .hbm, ⟨0, _⟩ => ⟨S8x4096x3584, .fp8e4m3⟩
  | .hbm, ⟨1, _⟩ => ⟨S8x4096x1, .f32⟩
  | .hbm, ⟨2, _⟩ => ⟨S3584x14336, .fp8e4m3⟩
  | .hbm, ⟨3, _⟩ => ⟨S1x14336, .f32⟩
  | .hbm, ⟨4, _⟩ => ⟨S32768x3584, .fp8e4m3⟩
  | .hbm, ⟨5, _⟩ => ⟨S32768x1, .f32⟩
  | .hbm, ⟨6, _⟩ => ⟨S32768x1, .f32⟩
  | .hbm, ⟨7, _⟩ => ⟨S32768x14336, .fp8e4m3⟩
  | .local _ .vmem, ⟨0, _⟩ => ⟨S32768x3584, .fp8e4m3⟩
  | .local _ .vmem, ⟨1, _⟩ => ⟨S32768x1, .f32⟩
  | .local _ .vmem, ⟨2, _⟩ => ⟨S3584x14336, .fp8e4m3⟩
  | .local _ .vmem, ⟨3, _⟩ => ⟨S1x14336, .f32⟩
  | .local _ .vmem, ⟨4, _⟩ => ⟨S32768x1, .f32⟩
  | .local _ .vmem, ⟨5, _⟩ => ⟨S32768x14336, .fp8e4m3⟩
  | _, _ => ⟨S8x4096x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S32768x3584 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32768x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3584x14336 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x14336 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32768x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32768x14336 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Runs.lean ====
/- The body's conditions in closed form, the staging memrefs at a point, the scratch operands and the launch's invariant: what the
   runs of the kernel's body in its seven cases share. -/
module

public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := k0_cond1 i = 1#1
/-- It holds at the points before point 7 — by arithmetic of the point. -/
theorem hcond0_0 : ∀ t : Fin cfg0.N, cond0_0 (grid0.coords t) ↔ t.val < 7 :=
  (fun t => by
    have ht : t.val < 455 := Nat.lt_of_lt_of_eq t.isLt N_0
    have e0 : (grid0.coords t 0).val = t.val / 7 % 65 := Pipeline.Grid.coords_val t 0 (by decide) rfl
    have e1 : (grid0.coords t 1).val = t.val / 1 % 7 := Pipeline.Grid.coords_val t 1 (by decide) rfl
    simp only [cond0_0, k0_cond1, e0, e1]
    word_cmp
   : ∀ t : Fin grid0.N, cond0_0 (grid0.coords t) ↔ t.val < 7)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 1).val) 0#32)) 0#32) = 1#1
/-- It holds at the points ≡ 0 (mod 7) — by arithmetic of the point. -/
theorem hcond0_1 : ∀ t : Fin cfg0.N, cond0_1 (grid0.coords t) ↔ t.val % 7 = 0 :=
  (fun t => by
    have ht : t.val < 455 := Nat.lt_of_lt_of_eq t.isLt N_0
    have e0 : (grid0.coords t 0).val = t.val / 7 % 65 := Pipeline.Grid.coords_val t 0 (by decide) rfl
    have e1 : (grid0.coords t 1).val = t.val / 1 % 7 := Pipeline.Grid.coords_val t 1 (by decide) rfl
    simp only [cond0_1, e0, e1]
    word_cmp
   : ∀ t : Fin grid0.N, cond0_1 (grid0.coords t) ↔ t.val % 7 = 0)

/-- The condition of the body's `scf.if` 2 (`k0_h3`), from the grid coordinates (the skeleton's scalar
    chain substituted). -/
abbrev cond0_2 (i : grid0.Coords) : Prop := (Scalar.cmpi .ne (Scalar.extui (Scalar.cmpi .sgt (BitVec.ofNat 32 (i 1).val) 0#32)) 0#32) = 1#1
/-- It holds at the points whose coordinates have 1 ≤ i1 — decided over the grid. -/
theorem hcond0_2 : ∀ t : Fin cfg0.N, cond0_2 (grid0.coords t) ↔ 1 ≤ t.val % 7 :=
  (by decide +kernel : ∀ t : Fin grid0.N, cond0_2 (grid0.coords t) ↔ 1 ≤ t.val % 7)

/-- The condition of the body's `scf.if` 3 (`k0_h4`), from the grid coordinates (the skeleton's scalar
    chain substituted). -/
abbrev cond0_3 (i : grid0.Coords) : Prop := k0_cond4 i = 1#1
/-- It holds at the points whose coordinates have 1 ≤ i0 and i0 ≤ 63 — decided over the grid. -/
theorem hcond0_3 : ∀ t : Fin cfg0.N, cond0_3 (grid0.coords t) ↔ (1 ≤ t.val / 7 % 65 ∧ t.val / 7 % 65 ≤ 63) :=
  (by decide +kernel : ∀ t : Fin grid0.N, cond0_3 (grid0.coords t) ↔ (1 ≤ t.val / 7 % 65 ∧ t.val / 7 % 65 ≤ 63))

/-- The condition of the body's `scf.if` 4 (`k0_h7`), from the grid coordinates (the skeleton's scalar
    chain substituted). -/
abbrev cond0_4 (i : grid0.Coords) : Prop := k0_cond7 i = 1#1
/-- It holds at the points from point 448 on — by arithmetic of the point. -/
theorem hcond0_4 : ∀ t : Fin cfg0.N, cond0_4 (grid0.coords t) ↔ 448 ≤ t.val :=
  (fun t => by
    have ht : t.val < 455 := Nat.lt_of_lt_of_eq t.isLt N_0
    have e0 : (grid0.coords t 0).val = t.val / 7 % 65 := Pipeline.Grid.coords_val t 0 (by decide) rfl
    have e1 : (grid0.coords t 1).val = t.val / 1 % 7 := Pipeline.Grid.coords_val t 1 (by decide) rfl
    simp only [cond0_4, k0_cond7, e0, e1]
    word_cmp
   : ∀ t : Fin grid0.N, cond0_4 (grid0.coords t) ↔ 448 ≤ t.val)

/-- The condition of the body's `scf.if` 5 (`k0_h8`), from the grid coordinates (the skeleton's scalar
    chain substituted). -/
abbrev cond0_5 (i : grid0.Coords) : Prop := (Scalar.cmpi .ne (Scalar.extui (Scalar.andi (Scalar.cmpi .slt (BitVec.ofNat 32 (i 0).val) 64#32) (Scalar.cmpi .eq (BitVec.ofNat 32 (i 1).val) 6#32))) 0#32) = 1#1
/-- It holds at the points whose coordinates have i0 + 321 ≤ 64·i1 — decided over the grid. -/
theorem hcond0_5 : ∀ t : Fin cfg0.N, cond0_5 (grid0.coords t) ↔ t.val / 7 % 65 + 321 ≤ 64 * (t.val % 7) :=
  (by decide +kernel : ∀ t : Fin grid0.N, cond0_5 (grid0.coords t) ↔ t.val / 7 % 65 + 321 ≤ 64 * (t.val % 7))

/-- The condition of the body's `scf.if` 6 (`k0_h5`), from the grid coordinates (the skeleton's scalar
    chain substituted). -/
abbrev cond0_6 (i : grid0.Coords) : Prop := (Scalar.cmpi .ne (Scalar.extui (Scalar.cmpi .eq (BitVec.ofNat 32 (i 1).val) 0#32)) 0#32) = 1#1
/-- It holds at the points ≡ 0 (mod 7) — by arithmetic of the point. -/
theorem hcond0_6 : ∀ t : Fin cfg0.N, cond0_6 (grid0.coords t) ↔ t.val % 7 = 0 :=
  (fun t => by
    have ht : t.val < 455 := Nat.lt_of_lt_of_eq t.isLt N_0
    have e0 : (grid0.coords t 0).val = t.val / 7 % 65 := Pipeline.Grid.coords_val t 0 (by decide) rfl
    have e1 : (grid0.coords t 1).val = t.val / 1 % 7 := Pipeline.Grid.coords_val t 1 (by decide) rfl
    simp only [cond0_6, e0, e1]
    word_cmp
   : ∀ t : Fin grid0.N, cond0_6 (grid0.coords t) ↔ t.val % 7 = 0)

/-- The condition of the body's `scf.if` 7 (`k0_h6`), from the grid coordinates (the skeleton's scalar
    chain substituted). -/
abbrev cond0_7 (i : grid0.Coords) : Prop := (Scalar.cmpi .ne (Scalar.extui (Scalar.cmpi .sgt (BitVec.ofNat 32 (i 1).val) 0#32)) 0#32) = 1#1
/-- It holds at the points whose coordinates have 1 ≤ i1 — decided over the grid. -/
theorem hcond0_7 : ∀ t : Fin cfg0.N, cond0_7 (grid0.coords t) ↔ 1 ≤ t.val % 7 :=
  (by decide +kernel : ∀ t : Fin grid0.N, cond0_7 (grid0.coords t) ↔ 1 ≤ t.val % 7)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S512x3584 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3584x2048 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x2048 .fp8e4m3 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S7x512x2048 .f32 := Memref.whole cc0_scratch0
abbrev scM0_1 : Memref sig .tc .vmem S512x128 .f32 := Memref.whole cc0_scratch1
abbrev scM0_2 : Memref sig .tc .vmem S512x1 .f32 := Memref.whole cc0_scratch2
abbrev scM0_3 : Memref sig .tc .vmem S512x1 .f32 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Gen

end
-- ==== Proof.Blocks.lean ====
/- What the kernel body computes at one grid point, as functions of the blocks it is handed: the tile of `y`, its running row
   maxima by lane, the scale and its inverse, the tile of codes; and what the buffers read after the body's chunked stores. -/
module

public import proofs.«01_k».proof.Proof.Runs
public import proofs.«01_k».proof.Proof.Gen.KernelIdeal.Skeleton
public import Idealize.ShloMosaic.Lib.WritesUnit
public import Idealize.ShloMosaic.Lib.WholeRead
public import Idealize.ShloMosaic.Lib.VecWindow
public import Idealize.ShloMosaic.Lib.ValueIdxCore
public import Idealize.ShloMosaic.Lib.Exec

@[expose] public section

set_option maxRecDepth 16384

noncomputable section

namespace Cert.KernelIdeal.Gen

open Idealize.ShloMosaic Idealize.ShloMosaic.TcCoe Idealize.ShloMosaic.Tactic
open Idealize.ShloMosaic.ValueIdx

variable {F : FTy → Type} [FloatOps F]

/-! ## The pieces of a block -/

/-- Columns `512 q … 512 q + 511` of a weight block. -/
def colsW (q : Fin 4) (x2 : Vec F S3584x2048 .fp8e4m3) : Vec F S3584x512 .fp8e4m3 :=
  fun y => x2 (ix2 (y 0) ⟨512 * q.val + (y 1).val, by have := idx2_lt1 y; omega⟩)

/-- Columns `512 q … 512 q + 511` of a block of column scales. -/
def colsS (q : Fin 4) (x3 : Vec F S1x2048 .f32) : Vec F S1x512 .f32 :=
  fun y => x3 (ix2 (y 0) ⟨512 * q.val + (y 1).val, by have := idx2_lt1 y; omega⟩)

/-- Chunk `q` of slot `j` of the kept tiles. -/
def colsY (j : Fin 7) (q : Fin 4) (x8 : Vec F S7x512x2048 .f32) : Vec F S1x512x512 .f32 :=
  fun y => x8 (ix3 j (y 1) ⟨512 * q.val + (y 2).val, by have : (y 2).val < 512 := (y 2).isLt; omega⟩)

/-- Four 512-column chunks side by side. -/
def beside {e : EltTy} (p : Fin 4 → Vec F S512x512 e) : Vec F S512x2048 e :=
  fun y => p ⟨(y 1).val / 512, by have := idx2_lt1 y; omega⟩ (ix2 (y 0) ⟨(y 1).val % 512, Nat.mod_lt _ (by norm_num)⟩)

/-- Slot `j` of the kept tiles replaced by the tile `Y`. -/
def setTile (j : Fin 7) (Y : Vec F S512x2048 .f32) (X : Vec F S7x512x2048 .f32) : Vec F S7x512x2048 .f32 :=
  fun i => if (i 0).val = j.val then Y (ix2 (i 1) (i 2)) else X i

/-! ## What a point computes -/

/-- Chunk `q` of the tile of `y`: product, times row scale, times column scale. -/
def chunkY (x0 : Vec F S512x3584 .fp8e4m3) (x1 : Vec F S512x1 .f32) (x2 : Vec F S3584x2048 .fp8e4m3) (x3 : Vec F S1x2048 .f32)
    (q : Fin 4) : FVec F S512x512 .f32 :=
  k0_pay13 x1 x0 (colsW q x2) (colsS q x3)

/-- The tile of `y`. -/
def tileY (x0 : Vec F S512x3584 .fp8e4m3) (x1 : Vec F S512x1 .f32) (x2 : Vec F S3584x2048 .fp8e4m3) (x3 : Vec F S1x2048 .f32) :
    Vec F S512x2048 .f32 :=
  beside (chunkY x0 x1 x2 x3)

/-- The maxima of `|y|` of a chunk over the columns of each of the 128 lanes. -/
def laneMax (y : FVec F S512x512 .f32) : FVec F S512x128 .f32 :=
  maximumf (maximumf (maximumf (extractStridedSlice S512x128 ![0, 0] (absf y) slices_S512x512_o0_0_S512x128)
    (extractStridedSlice S512x128 ![0, 128] (absf y) slices_S512x512_o0_128_S512x128))
    (extractStridedSlice S512x128 ![0, 256] (absf y) slices_S512x512_o0_256_S512x128))
    (extractStridedSlice S512x128 ![0, 384] (absf y) slices_S512x512_o0_384_S512x128)

/-- The maxima of `|y|` of a tile over the columns of each lane. -/
def tileM (x0 : Vec F S512x3584 .fp8e4m3) (x1 : Vec F S512x1 .f32) (x2 : Vec F S3584x2048 .fp8e4m3) (x3 : Vec F S1x2048 .f32) :
    Vec F S512x128 .f32 :=
  maximumf (maximumf (maximumf (laneMax (chunkY x0 x1 x2 x3 0)) (laneMax (chunkY x0 x1 x2 x3 1))) (laneMax (chunkY x0 x1 x2 x3 2)))
    (laneMax (chunkY x0 x1 x2 x3 3))

/-- The running maxima with a tile's added. -/
def addM (a b : Vec F S512x128 .f32) : Vec F S512x128 .f32 := maximumf (φ := .f32) a b

/-- The exponent of every row, from the running maxima. -/
def expo (a : Vec F S512x128 .f32) : IVec S512x1 32 := k0_pay48 (k0_pay44 a) (k0_pay45 a) (k0_pay46 a) (k0_pay47 a) 23#32

/-- The scale of every row. -/
def scaleOf (a : Vec F S512x128 .f32) : Vec F S512x1 .f32 := k0_pay49 (k0_pay44 a) (k0_pay45 a) (k0_pay46 a) (k0_pay47 a) 23#32

/-- The inverse scale of every row. -/
def invOf (a : Vec F S512x128 .f32) : Vec F S512x1 .f32 := k0_pay11 (expo a)

/-- The codes of the tile kept in slot `j`, at the inverse scales `v`. -/
def tileC (v : Vec F S512x1 .f32) (j : Fin 7) (x8 : Vec F S7x512x2048 .f32) : Vec F S512x2048 .fp8e4m3 :=
  beside fun q => k0_pay25 v (colsY j q x8)

/-! ## The payloads of the running maxima -/

theorem pay3_eq (a : FVec F S512x128 .f32) (b : FVec F S512x512 .f32) : k0_pay3 a b = maximumf a (laneMax b) :=
  (shapeCast_self _ _).trans rfl

theorem pay4_eq (a : FVec F S512x128 .f32) (b : FVec F S512x512 .f32) (d : Vec F S512x128 .f32) :
    k0_pay4 a b d = addM d (maximumf a (laneMax b)) :=
  (shapeCast_self _ _).trans rfl

theorem pay8_eq (v : FVec F S512x1 .f32) (a : FVec F S512x128 .f32) (x : Vec F S512x3584 .fp8e4m3) (w : Vec F S3584x512 .fp8e4m3)
    (s : Vec F S1x512 .f32) : k0_pay8 v a x w s = maximumf a (laneMax (k0_pay5 v x w s)) :=
  (shapeCast_self _ _).trans rfl

theorem pay9_eq (v : FVec F S512x1 .f32) (a : FVec F S512x128 .f32) (x : Vec F S512x3584 .fp8e4m3) (w : Vec F S3584x512 .fp8e4m3)
    (s : Vec F S1x512 .f32) (d : Vec F S512x128 .f32) : k0_pay9 v a x w s d = addM d (maximumf a (laneMax (k0_pay5 v x w s))) :=
  (shapeCast_self _ _).trans rfl

/-! ## Loads -/

theorem ld_full {s : Shape} {e : EltTy} {m : Memref sig .tc .vmem s e} (h : m.IsWhole) (x : Vec F s e) (off : Fin s.rank → ℕ)
    (hoff : ∀ a, off a = 0) (inb : ∀ a, off a + s.size a ≤ s.size a) :
    View.readAt (Elt F) m.view (Rect.unit off s.size inb).toLoadRect (h.unread x) = x := by
  funext y
  refine (h.readAt_unread x _ y).trans (congrArg x (funext fun a => Fin.ext ?_))
  show off a + 1 * (y a).val = (y a).val
  rw [hoff a]; omega

theorem ld_x {m : Memref sig .tc .vmem S512x3584 .fp8e4m3} (h : m.IsWhole) (x : Vec F S512x3584 .fp8e4m3)
    (inb : ∀ a, (![0, 0] : Fin 2 → ℕ) a + S512x3584.size a ≤ S512x3584.size a) :
    View.readAt (Elt F) m.view (Rect.unit (s := S512x3584) ![0, 0] S512x3584.size inb).toLoadRect (h.unread x) = x :=
  ld_full h x _ (by decide) inb

theorem ld_v {m : Memref sig .tc .vmem S512x1 .f32} (h : m.IsWhole) (x : Vec F S512x1 .f32)
    (inb : ∀ a, (![0, 0] : Fin 2 → ℕ) a + S512x1.size a ≤ S512x1.size a) :
    View.readAt (Elt F) m.view (Rect.unit (s := S512x1) ![0, 0] S512x1.size inb).toLoadRect (h.unread x) = x :=
  ld_full h x _ (by decide) inb

theorem ld_m {m : Memref sig .tc .vmem S512x128 .f32} (h : m.IsWhole) (x : Vec F S512x128 .f32)
    (inb : ∀ a, (![0, 0] : Fin 2 → ℕ) a + S512x128.size a ≤ S512x128.size a) :
    View.readAt (Elt F) m.view (Rect.unit (s := S512x128) ![0, 0] S512x128.size inb).toLoadRect (h.unread x) = x :=
  ld_full h x _ (by decide) inb

theorem ld_w {m : Memref sig .tc .vmem S3584x2048 .fp8e4m3} (h : m.IsWhole) (x : Vec F S3584x2048 .fp8e4m3) (q : Fin 4) (o : ℕ)
    (ho : o = 512 * q.val) (inb : ∀ a, (![0, o] : Fin 2 → ℕ) a + S3584x512.size a ≤ S3584x2048.size a) :
    View.readAt (Elt F) m.view (Rect.unit (s := S3584x2048) ![0, o] S3584x512.size inb).toLoadRect (h.unread x) = colsW q x := by
  subst ho
  funext y
  refine (h.readAt_unread x _ y).trans (congrArg x (funext fun a => Fin.ext ?_))
  match a with
  | ⟨0, _⟩ => show 0 + 1 * (y 0).val = (y 0).val; omega
  | ⟨1, _⟩ => show 512 * q.val + 1 * (y 1).val = 512 * q.val + (y 1).val; omega

theorem ld_s {m : Memref sig .tc .vmem S1x2048 .f32} (h : m.IsWhole) (x : Vec F S1x2048 .f32) (q : Fin 4) (o : ℕ)
    (ho : o = 512 * q.val) (inb : ∀ a, (![0, o] : Fin 2 → ℕ) a + S1x512.size a ≤ S1x2048.size a) :
    View.readAt (Elt F) m.view (Rect.unit (s := S1x2048) ![0, o] S1x512.size inb).toLoadRect (h.unread x) = colsS q x := by
  subst ho
  funext y
  refine (h.readAt_unread x _ y).trans (congrArg x (funext fun a => Fin.ext ?_))
  match a with
  | ⟨0, _⟩ => show 0 + 1 * (y 0).val = (y 0).val; omega
  | ⟨1, _⟩ => show 512 * q.val + 1 * (y 1).val = 512 * q.val + (y 1).val; omega

theorem ld_y {m : Memref sig .tc .vmem S7x512x2048 .f32} (h : m.IsWhole) (x : Vec F S7x512x2048 .f32) (j : Fin 7) (q : Fin 4)
    (off : Fin 3 → ℕ) (ho : off = ![j.val, 0, 512 * q.val]) (inb : ∀ a, off a + S1x512x512.size a ≤ S7x512x2048.size a) :
    View.readAt (Elt F) m.view (Rect.unit (s := S7x512x2048) off S1x512x512.size inb).toLoadRect (h.unread x) = colsY j q x := by
  subst ho
  funext y
  refine (h.readAt_unread x _ y).trans (congrArg x (funext fun a => Fin.ext ?_))
  have h0 : (y 0).val < 1 := (y 0).isLt
  match a with
  | ⟨0, _⟩ => show j.val + 1 * (y 0).val = j.val; omega
  | ⟨1, _⟩ => show 0 + 1 * (y 1).val = (y 1).val; omega
  | ⟨2, _⟩ => show 512 * q.val + 1 * (y 2).val = 512 * q.val + (y 2).val; omega

theorem ld_w0 {m : Memref sig .tc .vmem S3584x2048 .fp8e4m3} (h : m.IsWhole) (x : Vec F S3584x2048 .fp8e4m3)
    (inb : ∀ a, (![0, 0] : Fin 2 → ℕ) a + S3584x512.size a ≤ S3584x2048.size a) :
    View.readAt (Elt F) m.view (Rect.unit (s := S3584x2048) ![0, 0] S3584x512.size inb).toLoadRect (h.unread x) = colsW 0 x :=
  ld_w h x 0 0 rfl inb
theorem ld_w1 {m : Memref sig .tc .vmem S3584x2048 .fp8e4m3} (h : m.IsWhole) (x : Vec F S3584x2048 .fp8e4m3)
    (inb : ∀ a, (![0, 512] : Fin 2 → ℕ) a + S3584x512.size a ≤ S3584x2048.size a) :
    View.readAt (Elt F) m.view (Rect.unit (s := S3584x2048) ![0, 512] S3584x512.size inb).toLoadRect (h.unread x) = colsW 1 x :=
  ld_w h x 1 512 rfl inb
theorem ld_w2 {m : Memref sig .tc .vmem S3584x2048 .fp8e4m3} (h : m.IsWhole) (x : Vec F S3584x2048 .fp8e4m3)
    (inb : ∀ a, (![0, 1024] : Fin 2 → ℕ) a + S3584x512.size a ≤ S3584x2048.size a) :
    View.readAt (Elt F) m.view (Rect.unit (s := S3584x2048) ![0, 1024] S3584x512.size inb).toLoadRect (h.unread x) = colsW 2 x :=
  ld_w h x 2 1024 rfl inb
theorem ld_w3 {m : Memref sig .tc .vmem S3584x2048 .fp8e4m3} (h : m.IsWhole) (x : Vec F S3584x2048 .fp8e4m3)
    (inb : ∀ a, (![0, 1536] : Fin 2 → ℕ) a + S3584x512.size a ≤ S3584x2048.size a) :
    View.readAt (Elt F) m.view (Rect.unit (s := S3584x2048) ![0, 1536] S3584x512.size inb).toLoadRect (h.unread x) = colsW 3 x :=
  ld_w h x 3 1536 rfl inb
theorem ld_s0 {m : Memref sig .tc .vmem S1x2048 .f32} (h : m.IsWhole) (x : Vec F S1x2048 .f32)
    (inb : ∀ a, (![0, 0] : Fin 2 → ℕ) a + S1x512.size a ≤ S1x2048.size a) :
    View.readAt (Elt F) m.view (Rect.unit (s := S1x2048) ![0, 0] S1x512.size inb).toLoadRect (h.unread x) = colsS 0 x :=
  ld_s h x 0 0 rfl inb
theorem ld_s1 {m : Memref sig .tc .vmem S1x2048 .f32} (h : m.IsWhole) (x : Vec F S1x2048 .f32)
    (inb : ∀ a, (![0, 512] : Fin 2 → ℕ) a + S1x512.size a ≤ S1x2048.size a) :
    View.readAt (Elt F) m.view (Rect.unit (s := S1x2048) ![0, 512] S1x512.size inb).toLoadRect (h.unread x) = colsS 1 x :=
  ld_s h x 1 512 rfl inb
theorem ld_s2 {m : Memref sig .tc .vmem S1x2048 .f32} (h : m.IsWhole) (x : Vec F S1x2048 .f32)
    (inb : ∀ a, (![0, 1024] : Fin 2 → ℕ) a + S1x512.size a ≤ S1x2048.size a) :
    View.readAt (Elt F) m.view (Rect.unit (s := S1x2048) ![0, 1024] S1x512.size inb).toLoadRect (h.unread x) = colsS 2 x :=
  ld_s h x 2 1024 rfl inb
theorem ld_s3 {m : Memref sig .tc .vmem S1x2048 .f32} (h : m.IsWhole) (x : Vec F S1x2048 .f32)
    (inb : ∀ a, (![0, 1536] : Fin 2 → ℕ) a + S1x512.size a ≤ S1x2048.size a) :
    View.readAt (Elt F) m.view (Rect.unit (s := S1x2048) ![0, 1536] S1x512.size inb).toLoadRect (h.unread x) = colsS 3 x :=
  ld_s h x 3 1536 rfl inb

/-! The same with the sizes spelt out. -/

theorem ld_x' {m : Memref sig .tc .vmem S512x3584 .fp8e4m3} (h : m.IsWhole) (x : Vec F S512x3584 .fp8e4m3)
    (inb : ∀ a, (![0, 0] : Fin 2 → ℕ) a + (![512, 3584] : Fin _ → ℕ) a ≤ S512x3584.size a) :
    View.readAt (Elt F) m.view (Rect.unit (s := S512x3584) ![0, 0] ![512, 3584] inb).toLoadRect (h.unread x) = x :=
  ld_x h x inb
theorem ld_v' {m : Memref sig .tc .vmem S512x1 .f32} (h : m.IsWhole) (x : Vec F S512x1 .f32)
    (inb : ∀ a, (![0, 0] : Fin 2 → ℕ) a + (![512, 1] : Fin _ → ℕ) a ≤ S512x1.size a) :
    View.readAt (Elt F) m.view (Rect.unit (s := S512x1) ![0, 0] ![512, 1] inb).toLoadRect (h.unread x) = x :=
  ld_v h x inb
theorem ld_m' {m : Memref sig .tc .vmem S512x128 .f32} (h : m.IsWhole) (x : Vec F S512x128 .f32)
    (inb : ∀ a, (![0, 0] : Fin 2 → ℕ) a + (![512, 128] : Fin _ → ℕ) a ≤ S512x128.size a) :
    View.readAt (Elt F) m.view (Rect.unit (s := S512x128) ![0, 0] ![512, 128] inb).toLoadRect (h.unread x) = x :=
  ld_m h x inb
theorem ld_y' {m : Memref sig .tc .vmem S7x512x2048 .f32} (h : m.IsWhole) (x : Vec F S7x512x2048 .f32) (j : Fin 7) (q : Fin 4)
    (off : Fin 3 → ℕ) (ho : off = ![j.val, 0, 512 * q.val]) (inb : ∀ a, off a + (![1, 512, 512] : Fin _ → ℕ) a ≤ S7x512x2048.size a) :
    View.readAt (Elt F) m.view (Rect.unit (s := S7x512x2048) off ![1, 512, 512] inb).toLoadRect (h.unread x) = colsY j q x :=
  ld_y h x j q off ho inb
theorem ld_w0' {m : Memref sig .tc .vmem S3584x2048 .fp8e4m3} (h : m.IsWhole) (x : Vec F S3584x2048 .fp8e4m3)
    (inb : ∀ a, (![0, 0] : Fin 2 → ℕ) a + (![3584, 512] : Fin _ → ℕ) a ≤ S3584x2048.size a) :
    View.readAt (Elt F) m.view (Rect.unit (s := S3584x2048) ![0, 0] ![3584, 512] inb).toLoadRect (h.unread x) = colsW 0 x :=
  ld_w0 h x inb
theorem ld_w1' {m : Memref sig .tc .vmem S3584x2048 .fp8e4m3} (h : m.IsWhole) (x : Vec F S3584x2048 .fp8e4m3)
    (inb : ∀ a, (![0, 512] : Fin 2 → ℕ) a + (![3584, 512] : Fin _ → ℕ) a ≤ S3584x2048.size a) :
    View.readAt (Elt F) m.view (Rect.unit (s := S3584x2048) ![0, 512] ![3584, 512] inb).toLoadRect (h.unread x) = colsW 1 x :=
  ld_w1 h x inb
theorem ld_w2' {m : Memref sig .tc .vmem S3584x2048 .fp8e4m3} (h : m.IsWhole) (x : Vec F S3584x2048 .fp8e4m3)
    (inb : ∀ a, (![0, 1024] : Fin 2 → ℕ) a + (![3584, 512] : Fin _ → ℕ) a ≤ S3584x2048.size a) :
    View.readAt (Elt F) m.view (Rect.unit (s := S3584x2048) ![0, 1024] ![3584, 512] inb).toLoadRect (h.unread x) = colsW 2 x :=
  ld_w2 h x inb
theorem ld_w3' {m : Memref sig .tc .vmem S3584x2048 .fp8e4m3} (h : m.IsWhole) (x : Vec F S3584x2048 .fp8e4m3)
    (inb : ∀ a, (![0, 1536] : Fin 2 → ℕ) a + (![3584, 512] : Fin _ → ℕ) a ≤ S3584x2048.size a) :
    View.readAt (Elt F) m.view (Rect.unit (s := S3584x2048) ![0, 1536] ![3584, 512] inb).toLoadRect (h.unread x) = colsW 3 x :=
  ld_w3 h x inb
theorem ld_s0' {m : Memref sig .tc .vmem S1x2048 .f32} (h : m.IsWhole) (x : Vec F S1x2048 .f32)
    (inb : ∀ a, (![0, 0] : Fin 2 → ℕ) a + (![1, 512] : Fin _ → ℕ) a ≤ S1x2048.size a) :
    View.readAt (Elt F) m.view (Rect.unit (s := S1x2048) ![0, 0] ![1, 512] inb).toLoadRect (h.unread x) = colsS 0 x :=
  ld_s0 h x inb
theorem ld_s1' {m : Memref sig .tc .vmem S1x2048 .f32} (h : m.IsWhole) (x : Vec F S1x2048 .f32)
    (inb : ∀ a, (![0, 512] : Fin 2 → ℕ) a + (![1, 512] : Fin _ → ℕ) a ≤ S1x2048.size a) :
    View.readAt (Elt F) m.view (Rect.unit (s := S1x2048) ![0, 512] ![1, 512] inb).toLoadRect (h.unread x) = colsS 1 x :=
  ld_s1 h x inb
theorem ld_s2' {m : Memref sig .tc .vmem S1x2048 .f32} (h : m.IsWhole) (x : Vec F S1x2048 .f32)
    (inb : ∀ a, (![0, 1024] : Fin 2 → ℕ) a + (![1, 512] : Fin _ → ℕ) a ≤ S1x2048.size a) :
    View.readAt (Elt F) m.view (Rect.unit (s := S1x2048) ![0, 1024] ![1, 512] inb).toLoadRect (h.unread x) = colsS 2 x :=
  ld_s2 h x inb
theorem ld_s3' {m : Memref sig .tc .vmem S1x2048 .f32} (h : m.IsWhole) (x : Vec F S1x2048 .f32)
    (inb : ∀ a, (![0, 1536] : Fin 2 → ℕ) a + (![1, 512] : Fin _ → ℕ) a ≤ S1x2048.size a) :
    View.readAt (Elt F) m.view (Rect.unit (s := S1x2048) ![0, 1536] ![1, 512] inb).toLoadRect (h.unread x) = colsS 3 x :=
  ld_s3 h x inb

/-! ## Stores -/

/-- One store over a whole buffer leaves its payload. -/
theorem st_full {s : Shape} {e : EltTy} {m : Memref sig .tc .vmem s e} (f : m.view.ty.Contents (Elt F)) (off : Fin s.rank → ℕ)
    (hoff : ∀ a, off a = 0) (inb : ∀ a, off a + s.size a ≤ s.size a) (p : Vec F s e) :
    m.view.read (Elt F) (m.view.writes (Elt F) f [⟨Rect.unit off s.size inb, p⟩]) = p := by
  funext y
  exact View.read_writes_cons_unit_of_mem m.view f inb p [] y y rfl fun a => by rw [hoff a]; omega

/-- The running maxima loaded just after they were stored. -/
theorem cov_m {m : Memref sig .tc .vmem S512x128 .f32} (inb inb' : ∀ a, (![0, 0] : Fin 2 → ℕ) a + S512x128.size a ≤ S512x128.size a)
    (p : Vec F S512x128 .f32) :
    m.view.readCov (Val := Elt F) [⟨Rect.unit (s := S512x128) ![0, 0] S512x128.size inb, p⟩]
      (Rect.unit (s := S512x128) ![0, 0] S512x128.size inb').toLoadRect = p :=
  View.readCov_full m.view inb' inb p []

/-- A chunk stored with a leading unit axis. -/
theorem addUnit_apply (p : FVec F S512x512 .f32) (h : S512x512.ShapeCasts S1x512x512) (y : S1x512x512.Idx) :
    shapeCast S1x512x512 p h y = p (ix2 (y 1) (y 2)) := by
  refine (shapeCast_addUnit_apply ![512, 512] p h y).trans (congrArg p (funext fun a => ?_))
  match a with
  | ⟨0, _⟩ => rfl
  | ⟨1, _⟩ => rfl

/-- The four chunk stores of one tile replace that slot. -/
theorem st_tile {m : Memref sig .tc .vmem S7x512x2048 .f32} (h : m.IsWhole) (x : Vec F S7x512x2048 .f32) (j : Fin 7)
    (Y : Fin 4 → FVec F S512x512 .f32) (o0 o1 o2 o3 : Fin 3 → ℕ)
    (e0 : o0 = ![j.val, 0, 0]) (e1 : o1 = ![j.val, 0, 512]) (e2 : o2 = ![j.val, 0, 1024]) (e3 : o3 = ![j.val, 0, 1536])
    (i0 : ∀ a, o0 a + S1x512x512.size a ≤ S7x512x2048.size a) (i1 : ∀ a, o1 a + S1x512x512.size a ≤ S7x512x2048.size a)
    (i2 : ∀ a, o2 a + S1x512x512.size a ≤ S7x512x2048.size a) (i3 : ∀ a, o3 a + S1x512x512.size a ≤ S7x512x2048.size a)
    (p0 p1 p2 p3 : Vec F S1x512x512 .f32)
    (h0 : p0 = shapeCast S1x512x512 (Y 0) shapeCasts_S512x512_S1x512x512)
    (h1 : p1 = shapeCast S1x512x512 (Y 1) shapeCasts_S512x512_S1x512x512)
    (h2 : p2 = shapeCast S1x512x512 (Y 2) shapeCasts_S512x512_S1x512x512)
    (h3 : p3 = shapeCast S1x512x512 (Y 3) shapeCasts_S512x512_S1x512x512) :
    m.view.read (Elt F) (m.view.writes (Elt F) (h.unread x)
      [⟨Rect.unit (s := S7x512x2048) o3 S1x512x512.size i3, p3⟩, ⟨Rect.unit (s := S7x512x2048) o2 S1x512x512.size i2, p2⟩,
       ⟨Rect.unit (s := S7x512x2048) o1 S1x512x512.size i1, p1⟩, ⟨Rect.unit (s := S7x512x2048) o0 S1x512x512.size i0, p0⟩])
      = setTile j (beside Y) x := by
  subst h0 h1 h2 h3
  funext i
  have b0 : (i 0).val < 7 := (i 0).isLt
  have b1 : (i 1).val < 512 := (i 1).isLt
  have b2 : (i 2).val < 2048 := (i 2).isLt
  have hb : (i 2).val / 512 < 4 := by omega
  by_cases hj : (i 0).val = j.val
  · have key : ∀ (q : Fin 4) (hq : (i 2).val / 512 = q.val),
        setTile j (beside Y) x i = shapeCast S1x512x512 (Y q) shapeCasts_S512x512_S1x512x512
          (ix3 (0 : Fin 1) (⟨(i 1).val, b1⟩ : Fin 512) (⟨(i 2).val % 512, Nat.mod_lt _ (by norm_num)⟩ : Fin 512)) := by
      intro q hq
      rw [addUnit_apply]
      unfold setTile beside
      rw [if_pos hj]
      obtain rfl : q = ⟨(i 2).val / 512, hb⟩ := Fin.ext hq.symm
      rfl
    have hc : (i 2).val / 512 = 0 ∨ (i 2).val / 512 = 1 ∨ (i 2).val / 512 = 2 ∨ (i 2).val / 512 = 3 := by omega
    rcases hc with hq | hq | hq | hq
    · rw [View.read_writes_cons_unit_of_not_mem _ _ _ _ _ _ e3 2 (Or.inl (by show (i 2).val < 1536; omega)),
        View.read_writes_cons_unit_of_not_mem _ _ _ _ _ _ e2 2 (Or.inl (by show (i 2).val < 1024; omega)),
        View.read_writes_cons_unit_of_not_mem _ _ _ _ _ _ e1 2 (Or.inl (by show (i 2).val < 512; omega)), key 0 hq]
      refine View.read_writes_cons_unit_of_mem _ _ _ _ _ _ _ e0 fun a => ?_
      match a with
      | ⟨0, _⟩ => show (i 0).val = j.val + 0; omega
      | ⟨1, _⟩ => show (i 1).val = 0 + (i 1).val; omega
      | ⟨2, _⟩ => show (i 2).val = 0 + (i 2).val % 512; omega
    · rw [View.read_writes_cons_unit_of_not_mem _ _ _ _ _ _ e3 2 (Or.inl (by show (i 2).val < 1536; omega)),
        View.read_writes_cons_unit_of_not_mem _ _ _ _ _ _ e2 2 (Or.inl (by show (i 2).val < 1024; omega)), key 1 hq]
      refine View.read_writes_cons_unit_of_mem _ _ _ _ _ _ _ e1 fun a => ?_
      match a with
      | ⟨0, _⟩ => show (i 0).val = j.val + 0; omega
      | ⟨1, _⟩ => show (i 1).val = 0 + (i 1).val; omega
      | ⟨2, _⟩ => show (i 2).val = 512 + (i 2).val % 512; omega
    · rw [View.read_writes_cons_unit_of_not_mem _ _ _ _ _ _ e3 2 (Or.inl (by show (i 2).val < 1536; omega)), key 2 hq]
      refine View.read_writes_cons_unit_of_mem _ _ _ _ _ _ _ e2 fun a => ?_
      match a with
      | ⟨0, _⟩ => show (i 0).val = j.val + 0; omega
      | ⟨1, _⟩ => show (i 1).val = 0 + (i 1).val; omega
      | ⟨2, _⟩ => show (i 2).val = 1024 + (i 2).val % 512; omega
    · rw [key 3 hq]
      refine View.read_writes_cons_unit_of_mem _ _ _ _ _ _ _ e3 fun a => ?_
      match a with
      | ⟨0, _⟩ => show (i 0).val = j.val + 0; omega
      | ⟨1, _⟩ => show (i 1).val = 0 + (i 1).val; omega
      | ⟨2, _⟩ => show (i 2).val = 1536 + (i 2).val % 512; omega
  · have out : (i 0).val < j.val ∨ j.val + 1 ≤ (i 0).val := by omega
    rw [View.read_writes_cons_unit_of_not_mem _ _ _ _ _ _ e3 0 out, View.read_writes_cons_unit_of_not_mem _ _ _ _ _ _ e2 0 out,
      View.read_writes_cons_unit_of_not_mem _ _ _ _ _ _ e1 0 out, View.read_writes_cons_unit_of_not_mem _ _ _ _ _ _ e0 0 out]
    unfold setTile
    rw [if_neg hj]
    exact congrFun (h.read_unread x) i

/-- The four chunk stores of one tile of codes fill the block. -/
theorem st_codes {m : Memref sig .tc .vmem S512x2048 .fp8e4m3} (f : m.view.ty.Contents (Elt F)) (C : Fin 4 → Vec F S512x512 .fp8e4m3)
    (i0 : ∀ a, (![0, 0] : Fin 2 → ℕ) a + S512x512.size a ≤ S512x2048.size a)
    (i1 : ∀ a, (![0, 512] : Fin 2 → ℕ) a + S512x512.size a ≤ S512x2048.size a)
    (i2 : ∀ a, (![0, 1024] : Fin 2 → ℕ) a + S512x512.size a ≤ S512x2048.size a)
    (i3 : ∀ a, (![0, 1536] : Fin 2 → ℕ) a + S512x512.size a ≤ S512x2048.size a)
    (p0 p1 p2 p3 : Vec F S512x512 .fp8e4m3) (h0 : p0 = C 0) (h1 : p1 = C 1) (h2 : p2 = C 2) (h3 : p3 = C 3) :
    m.view.read (Elt F) (m.view.writes (Elt F) f
      [⟨Rect.unit (s := S512x2048) ![0, 1536] S512x512.size i3, p3⟩, ⟨Rect.unit (s := S512x2048) ![0, 1024] S512x512.size i2, p2⟩,
       ⟨Rect.unit (s := S512x2048) ![0, 512] S512x512.size i1, p1⟩, ⟨Rect.unit (s := S512x2048) ![0, 0] S512x512.size i0, p0⟩])
      = beside C := by
  subst h0 h1 h2 h3
  funext i
  have b1 : (i 1).val < 2048 := (i 1).isLt
  have hb : (i 1).val / 512 < 4 := by omega
  have key : ∀ (q : Fin 4) (hq : (i 1).val / 512 = q.val),
      beside C i = C q (ix2 (i 0) (⟨(i 1).val % 512, Nat.mod_lt _ (by norm_num)⟩ : Fin 512)) := by
    intro q hq
    unfold beside
    obtain rfl : q = ⟨(i 1).val / 512, hb⟩ := Fin.ext hq.symm
    rfl
  have hc : (i 1).val / 512 = 0 ∨ (i 1).val / 512 = 1 ∨ (i 1).val / 512 = 2 ∨ (i 1).val / 512 = 3 := by omega
  rcases hc with hq | hq | hq | hq
  · rw [View.read_writes_cons_unit_of_not_mem _ _ _ _ _ _ rfl 1 (Or.inl (by show (i 1).val < 1536; omega)),
      View.read_writes_cons_unit_of_not_mem _ _ _ _ _ _ rfl 1 (Or.inl (by show (i 1).val < 1024; omega)),
      View.read_writes_cons_unit_of_not_mem _ _ _ _ _ _ rfl 1 (Or.inl (by show (i 1).val < 512; omega)), key 0 hq]
    refine View.read_writes_cons_unit_of_mem _ _ _ _ _ _ _ rfl fun a => ?_
    match a with
    | ⟨0, _⟩ => show (i 0).val = 0 + (i 0).val; omega
    | ⟨1, _⟩ => show (i 1).val = 0 + (i 1).val % 512; omega
  · rw [View.read_writes_cons_unit_of_not_mem _ _ _ _ _ _ rfl 1 (Or.inl (by show (i 1).val < 1536; omega)),
      View.read_writes_cons_unit_of_not_mem _ _ _ _ _ _ rfl 1 (Or.inl (by show (i 1).val < 1024; omega)), key 1 hq]
    refine View.read_writes_cons_unit_of_mem _ _ _ _ _ _ _ rfl fun a => ?_
    match a with
    | ⟨0, _⟩ => show (i 0).val = 0 + (i 0).val; omega
    | ⟨1, _⟩ => show (i 1).val = 512 + (i 1).val % 512; omega
  · rw [View.read_writes_cons_unit_of_not_mem _ _ _ _ _ _ rfl 1 (Or.inl (by show (i 1).val < 1536; omega)), key 2 hq]
    refine View.read_writes_cons_unit_of_mem _ _ _ _ _ _ _ rfl fun a => ?_
    match a with
    | ⟨0, _⟩ => show (i 0).val = 0 + (i 0).val; omega
    | ⟨1, _⟩ => show (i 1).val = 1024 + (i 1).val % 512; omega
  · rw [key 3 hq]
    refine View.read_writes_cons_unit_of_mem _ _ _ _ _ _ _ rfl fun a => ?_
    match a with
    | ⟨0, _⟩ => show (i 0).val = 0 + (i 0).val; omega
    | ⟨1, _⟩ => show (i 1).val = 1536 + (i 1).val % 512; omega

end Cert.KernelIdeal.Gen

end
-- ==== Proof.State.lean ====
/- What the kernel's scratch buffers hold before each grid point, in terms of the blocks of the argument arrays: the tiles of `y` of
   the last seven points, the running row maxima, and the scale and inverse scale of the row block above; and that a point keeps it. -/
module

public import proofs.«01_k».proof.Proof.Blocks

@[expose] public section

set_option maxRecDepth 16384

noncomputable section

namespace Cert.KernelIdeal.Gen

open Idealize.ShloMosaic Idealize.ShloMosaic.TcCoe Idealize.ShloMosaic.Tactic
open Idealize.ShloMosaic.ValueIdx

variable {F : FTy → Type} [FloatOps F]

variable (m : (ℓ : Loc nD τ sig) → Buf (Elt F) ℓ)

/-! ## The values of a point -/

/-- The tile of `y` of the blocks of point `t`. -/
def tY (c : Dev nD) (t : Fin cfg0.N) : Vec F S512x2048 .f32 := tileY (iblk m c 0 t) (iblk m c 1 t) (iblk m c 2 t) (iblk m c 3 t)

/-- Its row maxima by lane. -/
def tM (c : Dev nD) (t : Fin cfg0.N) : Vec F S512x128 .f32 := tileM (iblk m c 0 t) (iblk m c 1 t) (iblk m c 2 t) (iblk m c 3 t)

/-- The running row maxima after point `n`: those of the points of its row block up to it. -/
def rmN (c : Dev nD) : (n : ℕ) → n < cfg0.N → Vec F S512x128 .f32
  | 0, h => tM m c ⟨0, h⟩
  | n + 1, h => if (n + 1) % 7 = 0 then tM m c ⟨n + 1, h⟩ else addM (rmN c n (Nat.lt_of_succ_lt h)) (tM m c ⟨n + 1, h⟩)

/-- `rmN` at a grid point. -/
def rm (c : Dev nD) (t : Fin cfg0.N) : Vec F S512x128 .f32 := rmN m c t.val t.isLt

theorem rm_first (c : Dev nD) (t : Fin cfg0.N) (h : t.val % 7 = 0) : rm m c t = tM m c t := by
  obtain ⟨n, hn⟩ := t
  unfold rm
  cases n with
  | zero => rfl
  | succ n => exact if_pos h

theorem rm_next (c : Dev nD) (s t : Fin cfg0.N) (hs : s.val + 1 = t.val) (h : ¬t.val % 7 = 0) :
    rm m c t = addM (rm m c s) (tM m c t) := by
  obtain ⟨n, hn⟩ := t
  obtain ⟨k, hk⟩ := s
  obtain rfl : k + 1 = n := hs
  unfold rm
  exact if_neg h

/-- The last point of the row block before that of point `t`. -/
def prevEnd (t : Fin cfg0.N) : Fin cfg0.N := ⟨7 * (t.val / 7) - 1, by have := t.isLt; omega⟩

/-- The point seven before `t`. -/
def back (t : Fin cfg0.N) : Fin cfg0.N := ⟨t.val - 7, by have := t.isLt; omega⟩

/-- The codes of a tile at the inverse scales `v`. -/
def codesOf (v : Vec F S512x1 .f32) (Y : Vec F S512x2048 .f32) : Vec F S512x2048 .fp8e4m3 :=
  beside fun q => k0_pay25 v fun y : S1x512x512.Idx =>
    Y (ix2 (y 1) ⟨512 * q.val + (y 2).val, by have : (y 2).val < 512 := (y 2).isLt; omega⟩)

/-- What a point leaves in the scale's window from the second row block on: the scale of the row block above. -/
def outScale (c : Dev nD) (t : Fin cfg0.N) : Vec F S512x1 .f32 := scaleOf (rm m c (prevEnd t))

/-- What it leaves in the codes' window: the codes of the tile seven points before. -/
def outCodes (c : Dev nD) (t : Fin cfg0.N) : Vec F S512x2048 .fp8e4m3 := codesOf (invOf (rm m c (prevEnd t))) (tY m c (back t))

/-! ## The invariant -/

/-- What the scratch buffers hold before point `n`. -/
structure Inv (c : Dev nD) (n : ℕ) (y : Vec F S7x512x2048 .f32) (am : Vec F S512x128 .f32) (sc iv : Vec F S512x1 .f32) : Prop where
  tile : ∀ s : Fin cfg0.N, s.val < n → n ≤ s.val + 7 → s.val < 448 → ∀ j : Fin 7, j.val = s.val % 7 →
    ∀ (r : Fin 512) (q : Fin 2048), y (ix3 j r q) = tY m c s (ix2 r q)
  mx : ∀ s : Fin cfg0.N, s.val + 1 = n → ¬n % 7 = 0 → n ≤ 448 → am = rm m c s
  scale : ∀ s : Fin cfg0.N, s.val + 1 = 7 * (n / 7) → n < 455 → sc = scaleOf (rm m c s)
  inv : ∀ s : Fin cfg0.N, s.val + 1 = 7 * (n / 7) → n < 455 → iv = invOf (rm m c s)

theorem Inv.zero (c : Dev nD) (y : Vec F S7x512x2048 .f32) (am : Vec F S512x128 .f32) (sc iv : Vec F S512x1 .f32) :
    Inv m c 0 y am sc iv where
  tile := fun s h => absurd h (Nat.not_lt_zero _)
  mx := fun s h => absurd h (by omega)
  scale := fun s h => absurd h (by omega)
  inv := fun s h => absurd h (by omega)

/-- The running maxima a point of the first 448 leaves. -/
theorem Inv.addM_eq {c : Dev nD} {t : Fin cfg0.N} {y : Vec F S7x512x2048 .f32} {am : Vec F S512x128 .f32} {sc iv : Vec F S512x1 .f32}
    (h : Inv m c t.val y am sc iv) (h0 : ¬t.val % 7 = 0) (ht : t.val < 448) : addM am (tM m c t) = rm m c t := by
  have hs : t.val - 1 < cfg0.N := by have := t.isLt; omega
  rw [rm_next m c ⟨t.val - 1, hs⟩ t (by show t.val - 1 + 1 = t.val; omega) h0,
    h.mx ⟨t.val - 1, hs⟩ (by show t.val - 1 + 1 = t.val; omega) h0 (by omega)]

theorem coords1 (t : Fin cfg0.N) : (grid0.coords t 1).val = t.val % 7 := by
  have e1 : (grid0.coords t 1).val = t.val / 1 % 7 := Pipeline.Grid.coords_val t 1 (by decide) rfl
  rw [e1, Nat.div_one]

/-- The kept tiles after a point that keeps its own. -/
theorem Inv.setTile {c : Dev nD} {t : Fin cfg0.N} {y : Vec F S7x512x2048 .f32} {am : Vec F S512x128 .f32} {sc iv : Vec F S512x1 .f32}
    (h : Inv m c t.val y am sc iv) :
    ∀ s : Fin cfg0.N, s.val < t.val + 1 → t.val + 1 ≤ s.val + 7 → s.val < 448 → ∀ j : Fin 7, j.val = s.val % 7 →
      ∀ (r : Fin 512) (q : Fin 2048), setTile (grid0.coords t 1) (tY m c t) y (ix3 j r q) = tY m c s (ix2 r q) := by
  intro s h1 h2 h3 j hj r q
  have e := coords1 t
  by_cases hst : s.val = t.val
  · obtain rfl : s = t := Fin.ext hst
    exact if_pos (show j.val = (grid0.coords s 1).val by rw [e, hj])
  · refine (if_neg (show ¬j.val = (grid0.coords t 1).val by rw [e, hj]; omega)).trans ?_
    exact h.tile s (by omega) (by omega) h3 j hj r q

/-- A point of the first 448 that is not the last of its row block. -/
theorem Inv.step {c : Dev nD} {t : Fin cfg0.N} {y : Vec F S7x512x2048 .f32} {am am' : Vec F S512x128 .f32} {sc iv : Vec F S512x1 .f32}
    (h : Inv m c t.val y am sc iv) (h6 : ¬t.val % 7 = 6) (ht : t.val < 448) (ha : am' = rm m c t) :
    Inv m c (t.val + 1) (Gen.setTile (grid0.coords t 1) (tY m c t) y) am' sc iv where
  tile := h.setTile
  mx := fun s hs _ _ => by
    obtain rfl : s = t := Fin.ext (by omega)
    exact ha
  scale := fun s hs _ => h.scale s (by omega) (by omega)
  inv := fun s hs _ => h.inv s (by omega) (by omega)

/-- A point of the first 448 that is the last of its row block. -/
theorem Inv.stepLast {c : Dev nD} {t : Fin cfg0.N} {y : Vec F S7x512x2048 .f32} {am am' : Vec F S512x128 .f32} {sc iv : Vec F S512x1 .f32}
    (h : Inv m c t.val y am sc iv) (h6 : t.val % 7 = 6) (ht : t.val < 448) (ha : am' = rm m c t) :
    Inv m c (t.val + 1) (Gen.setTile (grid0.coords t 1) (tY m c t) y) am' (scaleOf am') (invOf am') where
  tile := h.setTile
  mx := fun s hs h7 _ => absurd h7 (by omega)
  scale := fun s hs _ => by
    obtain rfl : s = t := Fin.ext (by omega)
    rw [ha]
  inv := fun s hs _ => by
    obtain rfl : s = t := Fin.ext (by omega)
    rw [ha]

/-- A point of the last seven. -/
theorem Inv.stepEnd {c : Dev nD} {t : Fin cfg0.N} {y : Vec F S7x512x2048 .f32} {am : Vec F S512x128 .f32} {sc iv : Vec F S512x1 .f32}
    (h : Inv m c t.val y am sc iv) (ht : 448 ≤ t.val) (hN : t.val < 455) : Inv m c (t.val + 1) y am sc iv where
  tile := fun s h1 h2 h3 => h.tile s (by omega) (by omega) h3
  mx := fun s hs h7 h8 => absurd h8 (by omega)
  scale := fun s hs h9 => h.scale s (by omega) (by omega)
  inv := fun s hs h9 => h.inv s (by omega) (by omega)

/-- The scale a point from the second row block on finds is that of the row block above, -/
theorem Inv.outScale {c : Dev nD} {t : Fin cfg0.N} {y : Vec F S7x512x2048 .f32} {am : Vec F S512x128 .f32} {sc iv : Vec F S512x1 .f32}
    (h : Inv m c t.val y am sc iv) (h7 : 7 ≤ t.val) (hN : t.val < 455) : sc = outScale m c t :=
  h.scale (prevEnd t) (by show 7 * (t.val / 7) - 1 + 1 = _; omega) hN

/-- and the codes it computes are those of the tile seven points before. -/
theorem Inv.outCodes {c : Dev nD} {t : Fin cfg0.N} {y : Vec F S7x512x2048 .f32} {am : Vec F S512x128 .f32} {sc iv : Vec F S512x1 .f32}
    (h : Inv m c t.val y am sc iv) (h7 : 7 ≤ t.val) (hN : t.val < 455) : tileC iv (grid0.coords t 1) y = outCodes m c t := by
  rw [h.inv (prevEnd t) (by show 7 * (t.val / 7) - 1 + 1 = _; omega) hN]
  unfold tileC Gen.outCodes codesOf
  refine congrArg beside (funext fun q => congrArg (k0_pay25 _) (funext fun y' => ?_))
  exact h.tile (back t) (by show t.val - 7 < _; omega) (by show _ ≤ t.val - 7 + 7; omega) (by show t.val - 7 < _; omega) _
    ((coords1 t).trans (by show t.val % 7 = (t.val - 7) % 7; omega)) _ _

end Cert.KernelIdeal.Gen

end
-- ==== Proof.RunA.lean ====
/- The body's run in case A (row block 0, first column block): from any contents of its buffers, what every buffer holds afterwards. -/
module

public import proofs.«01_k».proof.Proof.Blocks

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body in case A (row block 0, first column block). -/
theorem runA (c : Dev nD) (i : grid0.Coords) (arg2 : Memref sig .tc .vmem S512x3584 .fp8e4m3) (harg2 : arg2.IsWhole) (arg3 : Memref sig .tc .vmem S512x1 .f32) (harg3 : arg3.IsWhole) (arg4 : Memref sig .tc .vmem S3584x2048 .fp8e4m3) (harg4 : arg4.IsWhole) (arg5 : Memref sig .tc .vmem S1x2048 .f32) (harg5 : arg5.IsWhole) (arg6 : Memref sig .tc .vmem S512x1 .f32) (harg6 : arg6.IsWhole) (arg7 : Memref sig .tc .vmem S512x2048 .fp8e4m3) (harg7 : arg7.IsWhole) (arg8 : Memref sig .tc .vmem S7x512x2048 .f32) (harg8 : arg8.IsWhole) (arg9 : Memref sig .tc .vmem S512x128 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : cond0_1 i) (hc2 : ¬cond0_2 i) (hc3 : ¬cond0_3 i) (hc4 : ¬cond0_4 i) (hc5 : ¬cond0_5 i)
    (x0 : Vec F S512x3584 .fp8e4m3) (x1 : Vec F S512x1 .f32) (x2 : Vec F S3584x2048 .fp8e4m3) (x3 : Vec F S1x2048 .f32) (x6 : Vec F S512x1 .f32) (x7 : Vec F S512x2048 .fp8e4m3) (x8 : Vec F S7x512x2048 .f32) (x9 : Vec F S512x128 .f32) (x10 x11 : Vec F S512x1 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x6 ∗ owns (c : Thread nD τ) arg7 fullShare x7 ∗ owns (c : Thread nD τ) arg8 fullShare (setTile (i 1) (tileY x0 x1 x2 x3) x8) ∗ owns (c : Thread nD τ) arg9 fullShare (tileM x0 x1 x2 x3) ∗ owns (c : Thread nD τ) arg10 fullShare x10 ∗ owns (c : Thread nD τ) arg11 fullShare x11) -∗ K ⟨⟩))
    ⊢ wp frame (wpE (defs₀ (F := F)) Variants.none c none) E (cc0_fp8_linear_requant i arg2 harg2 arg3 harg3 arg4 harg4 arg5 harg5 arg6 harg6 arg7 harg7 arg8 harg8 arg9 harg9 arg10 harg10 arg11 harg11) K := by
  simp only [cc0_fp8_linear_requant_eq_skeleton]; unfold cc0_fp8_linear_requant_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, HS0⟩, ⟨%f7, %hf7, HS1⟩, ⟨%f8, %hf8, HS2⟩, ⟨%f9, %hf9, HS3⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
  sl_exec (disch := first | sl_exact hc0 | sl_exact hc1 | sl_exact hc2 | sl_exact hc3 | sl_exact hc4 | sl_exact hc5)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; exact harg6.read_unread _
  isplitl [H5]
  · iexists _; isplitr; swap; · iexact H5
    ipureintro; exact harg7.read_unread _
  isplitl [HS0]
  · iexists _; isplitr; swap; · iexact HS0
    ipureintro; exact st_tile harg8 x8 (i 1) (chunkY x0 x1 x2 x3) _ _ _ _ (k0_off1_eq i) (k0_off2_eq i) (k0_off3_eq i) (k0_off4_eq i) _ _ _ _ _ _ _ _ (by (try delta runA.sl.r_5); (try delta runA.sl.r_4); (try delta runA.sl.r_3); (try delta runA.sl.r_2); (try delta runA.sl.r_1); (try delta runA.sl.r); (try simp only [ld_x, ld_v, ld_m, ld_w0, ld_w1, ld_w2, ld_w3, ld_s0, ld_s1, ld_s2, ld_s3, ld_x', ld_v', ld_m', ld_w0', ld_w1', ld_w2', ld_w3', ld_s0', ld_s1', ld_s2', ld_s3', cov_m, pay3_eq, pay4_eq, pay8_eq, pay9_eq]) <;> rfl) (by (try delta runA.sl.r_5); (try delta runA.sl.r_4); (try delta runA.sl.r_3); (try delta runA.sl.r_2); (try delta runA.sl.r_1); (try delta runA.sl.r); (try simp only [ld_x, ld_v, ld_m, ld_w0, ld_w1, ld_w2, ld_w3, ld_s0, ld_s1, ld_s2, ld_s3, ld_x', ld_v', ld_m', ld_w0', ld_w1', ld_w2', ld_w3', ld_s0', ld_s1', ld_s2', ld_s3', cov_m, pay3_eq, pay4_eq, pay8_eq, pay9_eq]) <;> rfl) (by (try delta runA.sl.r_5); (try delta runA.sl.r_4); (try delta runA.sl.r_3); (try delta runA.sl.r_2); (try delta runA.sl.r_1); (try delta runA.sl.r); (try simp only [ld_x, ld_v, ld_m, ld_w0, ld_w1, ld_w2, ld_w3, ld_s0, ld_s1, ld_s2, ld_s3, ld_x', ld_v', ld_m', ld_w0', ld_w1', ld_w2', ld_w3', ld_s0', ld_s1', ld_s2', ld_s3', cov_m, pay3_eq, pay4_eq, pay8_eq, pay9_eq]) <;> rfl) (by (try delta runA.sl.r_5); (try delta runA.sl.r_4); (try delta runA.sl.r_3); (try delta runA.sl.r_2); (try delta runA.sl.r_1); (try delta runA.sl.r); (try simp only [ld_x, ld_v, ld_m, ld_w0, ld_w1, ld_w2, ld_w3, ld_s0, ld_s1, ld_s2, ld_s3, ld_x', ld_v', ld_m', ld_w0', ld_w1', ld_w2', ld_w3', ld_s0', ld_s1', ld_s2', ld_s3', cov_m, pay3_eq, pay4_eq, pay8_eq, pay9_eq]) <;> rfl)
  isplitl [HS1]
  · iexists _; isplitr; swap; · iexact HS1
    ipureintro; exact (st_full _ _ (by decide) _ _).trans (by (try delta runA.sl.r_5); (try delta runA.sl.r_4); (try delta runA.sl.r_3); (try delta runA.sl.r_2); (try delta runA.sl.r_1); (try delta runA.sl.r); (try simp only [ld_x, ld_v, ld_m, ld_w0, ld_w1, ld_w2, ld_w3, ld_s0, ld_s1, ld_s2, ld_s3, ld_x', ld_v', ld_m', ld_w0', ld_w1', ld_w2', ld_w3', ld_s0', ld_s1', ld_s2', ld_s3', cov_m, pay3_eq, pay4_eq, pay8_eq, pay9_eq]) <;> rfl)
  isplitl [HS2]
  · iexists _; isplitr; swap; · iexact HS2
    ipureintro; exact harg10.read_unread _
  iexists _; isplitr; swap; · iexact HS3
  ipureintro; exact harg11.read_unread _

end Cert.KernelIdeal.Gen

end
-- ==== Proof.RunB.lean ====
/- The body's run in case B (row block 0, column blocks 1 to 5): from any contents of its buffers, what every buffer holds afterwards. -/
module

public import proofs.«01_k».proof.Proof.RunA

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body in case B (row block 0, column blocks 1 to 5). -/
theorem runB (c : Dev nD) (i : grid0.Coords) (arg2 : Memref sig .tc .vmem S512x3584 .fp8e4m3) (harg2 : arg2.IsWhole) (arg3 : Memref sig .tc .vmem S512x1 .f32) (harg3 : arg3.IsWhole) (arg4 : Memref sig .tc .vmem S3584x2048 .fp8e4m3) (harg4 : arg4.IsWhole) (arg5 : Memref sig .tc .vmem S1x2048 .f32) (harg5 : arg5.IsWhole) (arg6 : Memref sig .tc .vmem S512x1 .f32) (harg6 : arg6.IsWhole) (arg7 : Memref sig .tc .vmem S512x2048 .fp8e4m3) (harg7 : arg7.IsWhole) (arg8 : Memref sig .tc .vmem S7x512x2048 .f32) (harg8 : arg8.IsWhole) (arg9 : Memref sig .tc .vmem S512x128 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i) (hc2 : cond0_2 i) (hc3 : ¬cond0_3 i) (hc4 : ¬cond0_4 i) (hc5 : ¬cond0_5 i)
    (x0 : Vec F S512x3584 .fp8e4m3) (x1 : Vec F S512x1 .f32) (x2 : Vec F S3584x2048 .fp8e4m3) (x3 : Vec F S1x2048 .f32) (x6 : Vec F S512x1 .f32) (x7 : Vec F S512x2048 .fp8e4m3) (x8 : Vec F S7x512x2048 .f32) (x9 : Vec F S512x128 .f32) (x10 x11 : Vec F S512x1 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x6 ∗ owns (c : Thread nD τ) arg7 fullShare x7 ∗ owns (c : Thread nD τ) arg8 fullShare (setTile (i 1) (tileY x0 x1 x2 x3) x8) ∗ owns (c : Thread nD τ) arg9 fullShare (addM x9 (tileM x0 x1 x2 x3)) ∗ owns (c : Thread nD τ) arg10 fullShare x10 ∗ owns (c : Thread nD τ) arg11 fullShare x11) -∗ K ⟨⟩))
    ⊢ wp frame (wpE (defs₀ (F := F)) Variants.none c none) E (cc0_fp8_linear_requant i arg2 harg2 arg3 harg3 arg4 harg4 arg5 harg5 arg6 harg6 arg7 harg7 arg8 harg8 arg9 harg9 arg10 harg10 arg11 harg11) K := by
  simp only [cc0_fp8_linear_requant_eq_skeleton]; unfold cc0_fp8_linear_requant_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, HS0⟩, ⟨%f7, %hf7, HS1⟩, ⟨%f8, %hf8, HS2⟩, ⟨%f9, %hf9, HS3⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
  sl_exec (disch := first | sl_exact hc0 | sl_exact hc1 | sl_exact hc2 | sl_exact hc3 | sl_exact hc4 | sl_exact hc5)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; exact harg6.read_unread _
  isplitl [H5]
  · iexists _; isplitr; swap; · iexact H5
    ipureintro; exact harg7.read_unread _
  isplitl [HS0]
  · iexists _; isplitr; swap; · iexact HS0
    ipureintro; exact st_tile harg8 x8 (i 1) (chunkY x0 x1 x2 x3) _ _ _ _ (k0_off1_eq i) (k0_off2_eq i) (k0_off3_eq i) (k0_off4_eq i) _ _ _ _ _ _ _ _ (by (try delta runB.sl.r_5); (try delta runB.sl.r_4); (try delta runB.sl.r_3); (try delta runB.sl.r_2); (try delta runB.sl.r_1); (try delta runB.sl.r); (try simp only [ld_x, ld_v, ld_m, ld_w0, ld_w1, ld_w2, ld_w3, ld_s0, ld_s1, ld_s2, ld_s3, ld_x', ld_v', ld_m', ld_w0', ld_w1', ld_w2', ld_w3', ld_s0', ld_s1', ld_s2', ld_s3', cov_m, pay3_eq, pay4_eq, pay8_eq, pay9_eq]) <;> rfl) (by (try delta runB.sl.r_5); (try delta runB.sl.r_4); (try delta runB.sl.r_3); (try delta runB.sl.r_2); (try delta runB.sl.r_1); (try delta runB.sl.r); (try simp only [ld_x, ld_v, ld_m, ld_w0, ld_w1, ld_w2, ld_w3, ld_s0, ld_s1, ld_s2, ld_s3, ld_x', ld_v', ld_m', ld_w0', ld_w1', ld_w2', ld_w3', ld_s0', ld_s1', ld_s2', ld_s3', cov_m, pay3_eq, pay4_eq, pay8_eq, pay9_eq]) <;> rfl) (by (try delta runB.sl.r_5); (try delta runB.sl.r_4); (try delta runB.sl.r_3); (try delta runB.sl.r_2); (try delta runB.sl.r_1); (try delta runB.sl.r); (try simp only [ld_x, ld_v, ld_m, ld_w0, ld_w1, ld_w2, ld_w3, ld_s0, ld_s1, ld_s2, ld_s3, ld_x', ld_v', ld_m', ld_w0', ld_w1', ld_w2', ld_w3', ld_s0', ld_s1', ld_s2', ld_s3', cov_m, pay3_eq, pay4_eq, pay8_eq, pay9_eq]) <;> rfl) (by (try delta runB.sl.r_5); (try delta runB.sl.r_4); (try delta runB.sl.r_3); (try delta runB.sl.r_2); (try delta runB.sl.r_1); (try delta runB.sl.r); (try simp only [ld_x, ld_v, ld_m, ld_w0, ld_w1, ld_w2, ld_w3, ld_s0, ld_s1, ld_s2, ld_s3, ld_x', ld_v', ld_m', ld_w0', ld_w1', ld_w2', ld_w3', ld_s0', ld_s1', ld_s2', ld_s3', cov_m, pay3_eq, pay4_eq, pay8_eq, pay9_eq]) <;> rfl)
  isplitl [HS1]
  · iexists _; isplitr; swap; · iexact HS1
    ipureintro; exact (st_full _ _ (by decide) _ _).trans (by (try delta runB.sl.r_5); (try delta runB.sl.r_4); (try delta runB.sl.r_3); (try delta runB.sl.r_2); (try delta runB.sl.r_1); (try delta runB.sl.r); (try simp only [ld_x, ld_v, ld_m, ld_w0, ld_w1, ld_w2, ld_w3, ld_s0, ld_s1, ld_s2, ld_s3, ld_x', ld_v', ld_m', ld_w0', ld_w1', ld_w2', ld_w3', ld_s0', ld_s1', ld_s2', ld_s3', cov_m, pay3_eq, pay4_eq, pay8_eq, pay9_eq]) <;> rfl)
  isplitl [HS2]
  · iexists _; isplitr; swap; · iexact HS2
    ipureintro; exact harg10.read_unread _
  iexists _; isplitr; swap; · iexact HS3
  ipureintro; exact harg11.read_unread _

end Cert.KernelIdeal.Gen

end
-- ==== Proof.RunC.lean ====
/- The body's run in case C (row block 0, last column block): from any contents of its buffers, what every buffer holds afterwards. -/
module

public import proofs.«01_k».proof.Proof.RunB

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body in case C (row block 0, last column block). -/
theorem runC (c : Dev nD) (i : grid0.Coords) (arg2 : Memref sig .tc .vmem S512x3584 .fp8e4m3) (harg2 : arg2.IsWhole) (arg3 : Memref sig .tc .vmem S512x1 .f32) (harg3 : arg3.IsWhole) (arg4 : Memref sig .tc .vmem S3584x2048 .fp8e4m3) (harg4 : arg4.IsWhole) (arg5 : Memref sig .tc .vmem S1x2048 .f32) (harg5 : arg5.IsWhole) (arg6 : Memref sig .tc .vmem S512x1 .f32) (harg6 : arg6.IsWhole) (arg7 : Memref sig .tc .vmem S512x2048 .fp8e4m3) (harg7 : arg7.IsWhole) (arg8 : Memref sig .tc .vmem S7x512x2048 .f32) (harg8 : arg8.IsWhole) (arg9 : Memref sig .tc .vmem S512x128 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i) (hc2 : cond0_2 i) (hc3 : ¬cond0_3 i) (hc4 : ¬cond0_4 i) (hc5 : cond0_5 i)
    (x0 : Vec F S512x3584 .fp8e4m3) (x1 : Vec F S512x1 .f32) (x2 : Vec F S3584x2048 .fp8e4m3) (x3 : Vec F S1x2048 .f32) (x6 : Vec F S512x1 .f32) (x7 : Vec F S512x2048 .fp8e4m3) (x8 : Vec F S7x512x2048 .f32) (x9 : Vec F S512x128 .f32) (x10 x11 : Vec F S512x1 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x6 ∗ owns (c : Thread nD τ) arg7 fullShare x7 ∗ owns (c : Thread nD τ) arg8 fullShare (setTile (i 1) (tileY x0 x1 x2 x3) x8) ∗ owns (c : Thread nD τ) arg9 fullShare (addM x9 (tileM x0 x1 x2 x3)) ∗ owns (c : Thread nD τ) arg10 fullShare (scaleOf (addM x9 (tileM x0 x1 x2 x3))) ∗ owns (c : Thread nD τ) arg11 fullShare (invOf (addM x9 (tileM x0 x1 x2 x3)))) -∗ K ⟨⟩))
    ⊢ wp frame (wpE (defs₀ (F := F)) Variants.none c none) E (cc0_fp8_linear_requant i arg2 harg2 arg3 harg3 arg4 harg4 arg5 harg5 arg6 harg6 arg7 harg7 arg8 harg8 arg9 harg9 arg10 harg10 arg11 harg11) K := by
  simp only [cc0_fp8_linear_requant_eq_skeleton]; unfold cc0_fp8_linear_requant_skel
  simp only [k0_part1_eq_skeleton, k0_part2_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, HS0⟩, ⟨%f7, %hf7, HS1⟩, ⟨%f8, %hf8, HS2⟩, ⟨%f9, %hf9, HS3⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
  sl_exec (disch := first | sl_exact hc0 | sl_exact hc1 | sl_exact hc2 | sl_exact hc3 | sl_exact hc4 | sl_exact hc5)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; exact harg6.read_unread _
  isplitl [H5]
  · iexists _; isplitr; swap; · iexact H5
    ipureintro; exact harg7.read_unread _
  isplitl [HS0]
  · iexists _; isplitr; swap; · iexact HS0
    ipureintro; exact st_tile harg8 x8 (i 1) (chunkY x0 x1 x2 x3) _ _ _ _ (k0_off1_eq i) (k0_off2_eq i) (k0_off3_eq i) (k0_off4_eq i) _ _ _ _ _ _ _ _ (by (try delta runC.sl.v16); (try delta runC.sl.HS1_1); (try delta runC.sl.r_11); (try delta runC.sl.r_10); (try delta runC.sl.r_9); (try delta runC.sl.r_8); (try delta runC.sl.r_7); (try delta runC.sl.r_6); (try delta runC.sl.r_5); (try delta runC.sl.r_4); (try delta runC.sl.r_3); (try delta runC.sl.r_2); (try delta runC.sl.r_1); (try delta runC.sl.r); (try simp only [ld_x, ld_v, ld_m, ld_w0, ld_w1, ld_w2, ld_w3, ld_s0, ld_s1, ld_s2, ld_s3, ld_x', ld_v', ld_m', ld_w0', ld_w1', ld_w2', ld_w3', ld_s0', ld_s1', ld_s2', ld_s3', cov_m, pay3_eq, pay4_eq, pay8_eq, pay9_eq]) <;> rfl) (by (try delta runC.sl.v16); (try delta runC.sl.HS1_1); (try delta runC.sl.r_11); (try delta runC.sl.r_10); (try delta runC.sl.r_9); (try delta runC.sl.r_8); (try delta runC.sl.r_7); (try delta runC.sl.r_6); (try delta runC.sl.r_5); (try delta runC.sl.r_4); (try delta runC.sl.r_3); (try delta runC.sl.r_2); (try delta runC.sl.r_1); (try delta runC.sl.r); (try simp only [ld_x, ld_v, ld_m, ld_w0, ld_w1, ld_w2, ld_w3, ld_s0, ld_s1, ld_s2, ld_s3, ld_x', ld_v', ld_m', ld_w0', ld_w1', ld_w2', ld_w3', ld_s0', ld_s1', ld_s2', ld_s3', cov_m, pay3_eq, pay4_eq, pay8_eq, pay9_eq]) <;> rfl) (by (try delta runC.sl.v16); (try delta runC.sl.HS1_1); (try delta runC.sl.r_11); (try delta runC.sl.r_10); (try delta runC.sl.r_9); (try delta runC.sl.r_8); (try delta runC.sl.r_7); (try delta runC.sl.r_6); (try delta runC.sl.r_5); (try delta runC.sl.r_4); (try delta runC.sl.r_3); (try delta runC.sl.r_2); (try delta runC.sl.r_1); (try delta runC.sl.r); (try simp only [ld_x, ld_v, ld_m, ld_w0, ld_w1, ld_w2, ld_w3, ld_s0, ld_s1, ld_s2, ld_s3, ld_x', ld_v', ld_m', ld_w0', ld_w1', ld_w2', ld_w3', ld_s0', ld_s1', ld_s2', ld_s3', cov_m, pay3_eq, pay4_eq, pay8_eq, pay9_eq]) <;> rfl) (by (try delta runC.sl.v16); (try delta runC.sl.HS1_1); (try delta runC.sl.r_11); (try delta runC.sl.r_10); (try delta runC.sl.r_9); (try delta runC.sl.r_8); (try delta runC.sl.r_7); (try delta runC.sl.r_6); (try delta runC.sl.r_5); (try delta runC.sl.r_4); (try delta runC.sl.r_3); (try delta runC.sl.r_2); (try delta runC.sl.r_1); (try delta runC.sl.r); (try simp only [ld_x, ld_v, ld_m, ld_w0, ld_w1, ld_w2, ld_w3, ld_s0, ld_s1, ld_s2, ld_s3, ld_x', ld_v', ld_m', ld_w0', ld_w1', ld_w2', ld_w3', ld_s0', ld_s1', ld_s2', ld_s3', cov_m, pay3_eq, pay4_eq, pay8_eq, pay9_eq]) <;> rfl)
  isplitl [HS1]
  · iexists _; isplitr; swap; · iexact HS1
    ipureintro; exact (st_full _ _ (by decide) _ _).trans (by (try delta runC.sl.v16); (try delta runC.sl.HS1_1); (try delta runC.sl.r_11); (try delta runC.sl.r_10); (try delta runC.sl.r_9); (try delta runC.sl.r_8); (try delta runC.sl.r_7); (try delta runC.sl.r_6); (try delta runC.sl.r_5); (try delta runC.sl.r_4); (try delta runC.sl.r_3); (try delta runC.sl.r_2); (try delta runC.sl.r_1); (try delta runC.sl.r); (try simp only [ld_x, ld_v, ld_m, ld_w0, ld_w1, ld_w2, ld_w3, ld_s0, ld_s1, ld_s2, ld_s3, ld_x', ld_v', ld_m', ld_w0', ld_w1', ld_w2', ld_w3', ld_s0', ld_s1', ld_s2', ld_s3', cov_m, pay3_eq, pay4_eq, pay8_eq, pay9_eq]) <;> rfl)
  isplitl [HS2]
  · iexists _; isplitr; swap; · iexact HS2
    ipureintro; exact (st_full _ _ (by decide) _ _).trans (congrArg scaleOf (show _ = addM x9 (tileM x0 x1 x2 x3) from by (try delta runC.sl.v16); (try delta runC.sl.HS1_1); (try delta runC.sl.r_11); (try delta runC.sl.r_10); (try delta runC.sl.r_9); (try delta runC.sl.r_8); (try delta runC.sl.r_7); (try delta runC.sl.r_6); (try delta runC.sl.r_5); (try delta runC.sl.r_4); (try delta runC.sl.r_3); (try delta runC.sl.r_2); (try delta runC.sl.r_1); (try delta runC.sl.r); (try simp only [ld_x, ld_v, ld_m, ld_w0, ld_w1, ld_w2, ld_w3, ld_s0, ld_s1, ld_s2, ld_s3, ld_x', ld_v', ld_m', ld_w0', ld_w1', ld_w2', ld_w3', ld_s0', ld_s1', ld_s2', ld_s3', cov_m, pay3_eq, pay4_eq, pay8_eq, pay9_eq]) ; exact (cov_m _ _ _).trans rfl))
  iexists _; isplitr; swap; · iexact HS3
  ipureintro; exact (st_full _ _ (by decide) _ _).trans (congrArg invOf (show _ = addM x9 (tileM x0 x1 x2 x3) from by (try delta runC.sl.v16); (try delta runC.sl.HS1_1); (try delta runC.sl.r_11); (try delta runC.sl.r_10); (try delta runC.sl.r_9); (try delta runC.sl.r_8); (try delta runC.sl.r_7); (try delta runC.sl.r_6); (try delta runC.sl.r_5); (try delta runC.sl.r_4); (try delta runC.sl.r_3); (try delta runC.sl.r_2); (try delta runC.sl.r_1); (try delta runC.sl.r); (try simp only [ld_x, ld_v, ld_m, ld_w0, ld_w1, ld_w2, ld_w3, ld_s0, ld_s1, ld_s2, ld_s3, ld_x', ld_v', ld_m', ld_w0', ld_w1', ld_w2', ld_w3', ld_s0', ld_s1', ld_s2', ld_s3', cov_m, pay3_eq, pay4_eq, pay8_eq, pay9_eq]) ; exact (cov_m _ _ _).trans rfl))

end Cert.KernelIdeal.Gen

end
-- ==== Proof.RunD.lean ====
/- The body's run in case D (a middle row, first column block): from any contents of its buffers, what every buffer holds afterwards. -/
module

public import proofs.«01_k».proof.Proof.RunC

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body in case D (a middle row, first column block). -/
theorem runD (c : Dev nD) (i : grid0.Coords) (arg2 : Memref sig .tc .vmem S512x3584 .fp8e4m3) (harg2 : arg2.IsWhole) (arg3 : Memref sig .tc .vmem S512x1 .f32) (harg3 : arg3.IsWhole) (arg4 : Memref sig .tc .vmem S3584x2048 .fp8e4m3) (harg4 : arg4.IsWhole) (arg5 : Memref sig .tc .vmem S1x2048 .f32) (harg5 : arg5.IsWhole) (arg6 : Memref sig .tc .vmem S512x1 .f32) (harg6 : arg6.IsWhole) (arg7 : Memref sig .tc .vmem S512x2048 .fp8e4m3) (harg7 : arg7.IsWhole) (arg8 : Memref sig .tc .vmem S7x512x2048 .f32) (harg8 : arg8.IsWhole) (arg9 : Memref sig .tc .vmem S512x128 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc3 : cond0_3 i) (hc4 : ¬cond0_4 i) (hc5 : ¬cond0_5 i) (hc6 : cond0_6 i) (hc7 : ¬cond0_7 i)
    (x0 : Vec F S512x3584 .fp8e4m3) (x1 : Vec F S512x1 .f32) (x2 : Vec F S3584x2048 .fp8e4m3) (x3 : Vec F S1x2048 .f32) (x6 : Vec F S512x1 .f32) (x7 : Vec F S512x2048 .fp8e4m3) (x8 : Vec F S7x512x2048 .f32) (x9 : Vec F S512x128 .f32) (x10 x11 : Vec F S512x1 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x10 ∗ owns (c : Thread nD τ) arg7 fullShare (tileC x11 (i 1) x8) ∗ owns (c : Thread nD τ) arg8 fullShare (setTile (i 1) (tileY x0 x1 x2 x3) x8) ∗ owns (c : Thread nD τ) arg9 fullShare (tileM x0 x1 x2 x3) ∗ owns (c : Thread nD τ) arg10 fullShare x10 ∗ owns (c : Thread nD τ) arg11 fullShare x11) -∗ K ⟨⟩))
    ⊢ wp frame (wpE (defs₀ (F := F)) Variants.none c none) E (cc0_fp8_linear_requant i arg2 harg2 arg3 harg3 arg4 harg4 arg5 harg5 arg6 harg6 arg7 harg7 arg8 harg8 arg9 harg9 arg10 harg10 arg11 harg11) K := by
  simp only [cc0_fp8_linear_requant_eq_skeleton]; unfold cc0_fp8_linear_requant_skel
  simp only [k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, HS0⟩, ⟨%f7, %hf7, HS1⟩, ⟨%f8, %hf8, HS2⟩, ⟨%f9, %hf9, HS3⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
  sl_exec (disch := first | sl_exact hc0 | sl_exact hc3 | sl_exact hc4 | sl_exact hc5 | sl_exact hc6 | sl_exact hc7)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; exact (st_full _ _ (by decide) _ _).trans (by (try delta runD.sl.r_8); (try delta runD.sl.r_7); (try delta runD.sl.r_6); (try delta runD.sl.r_5); (try delta runD.sl.r_4); (try delta runD.sl.r_3); (try delta runD.sl.r_2); (try delta runD.sl.r_1); (try delta runD.sl.r); (try delta runD.sl.v120); (try delta runD.sl.v54); (try delta runD.sl.v87); (try simp only [ld_x, ld_v, ld_m, ld_w0, ld_w1, ld_w2, ld_w3, ld_s0, ld_s1, ld_s2, ld_s3, ld_x', ld_v', ld_m', ld_w0', ld_w1', ld_w2', ld_w3', ld_s0', ld_s1', ld_s2', ld_s3', cov_m, pay3_eq, pay4_eq, pay8_eq, pay9_eq]) <;> rfl)
  isplitl [H5]
  · iexists _; isplitr; swap; · iexact H5
    ipureintro; exact st_codes _ (fun q => k0_pay25 x11 (colsY (i 1) q x8)) _ _ _ _ _ _ _ _ (by (try delta runD.sl.r_8); (try delta runD.sl.r_7); (try delta runD.sl.r_6); (try delta runD.sl.r_5); (try delta runD.sl.r_4); (try delta runD.sl.r_3); (try delta runD.sl.r_2); (try delta runD.sl.r_1); (try delta runD.sl.r); (try delta runD.sl.v120); (try delta runD.sl.v54); (try delta runD.sl.v87); simp only [ld_y harg8 x8 (i 1) 0 _ (k0_off5_eq i), ld_y' harg8 x8 (i 1) 0 _ (k0_off5_eq i), ld_v, ld_v'] <;> rfl) (by (try delta runD.sl.r_8); (try delta runD.sl.r_7); (try delta runD.sl.r_6); (try delta runD.sl.r_5); (try delta runD.sl.r_4); (try delta runD.sl.r_3); (try delta runD.sl.r_2); (try delta runD.sl.r_1); (try delta runD.sl.r); (try delta runD.sl.v120); (try delta runD.sl.v54); (try delta runD.sl.v87); simp only [ld_y harg8 x8 (i 1) 1 _ (k0_off6_eq i), ld_y' harg8 x8 (i 1) 1 _ (k0_off6_eq i), ld_v, ld_v'] <;> rfl) (by (try delta runD.sl.r_8); (try delta runD.sl.r_7); (try delta runD.sl.r_6); (try delta runD.sl.r_5); (try delta runD.sl.r_4); (try delta runD.sl.r_3); (try delta runD.sl.r_2); (try delta runD.sl.r_1); (try delta runD.sl.r); (try delta runD.sl.v120); (try delta runD.sl.v54); (try delta runD.sl.v87); simp only [ld_y harg8 x8 (i 1) 2 _ (k0_off7_eq i), ld_y' harg8 x8 (i 1) 2 _ (k0_off7_eq i), ld_v, ld_v'] <;> rfl) (by (try delta runD.sl.r_8); (try delta runD.sl.r_7); (try delta runD.sl.r_6); (try delta runD.sl.r_5); (try delta runD.sl.r_4); (try delta runD.sl.r_3); (try delta runD.sl.r_2); (try delta runD.sl.r_1); (try delta runD.sl.r); (try delta runD.sl.v120); (try delta runD.sl.v54); (try delta runD.sl.v87); simp only [ld_y harg8 x8 (i 1) 3 _ (k0_off8_eq i), ld_y' harg8 x8 (i 1) 3 _ (k0_off8_eq i), ld_v, ld_v'] <;> rfl)
  isplitl [HS0]
  · iexists _; isplitr; swap; · iexact HS0
    ipureintro; exact st_tile harg8 x8 (i 1) (chunkY x0 x1 x2 x3) _ _ _ _ (k0_off5_eq i) (k0_off6_eq i) (k0_off7_eq i) (k0_off8_eq i) _ _ _ _ _ _ _ _ (by (try delta runD.sl.r_8); (try delta runD.sl.r_7); (try delta runD.sl.r_6); (try delta runD.sl.r_5); (try delta runD.sl.r_4); (try delta runD.sl.r_3); (try delta runD.sl.r_2); (try delta runD.sl.r_1); (try delta runD.sl.r); (try delta runD.sl.v120); (try delta runD.sl.v54); (try delta runD.sl.v87); (try simp only [ld_x, ld_v, ld_m, ld_w0, ld_w1, ld_w2, ld_w3, ld_s0, ld_s1, ld_s2, ld_s3, ld_x', ld_v', ld_m', ld_w0', ld_w1', ld_w2', ld_w3', ld_s0', ld_s1', ld_s2', ld_s3', cov_m, pay3_eq, pay4_eq, pay8_eq, pay9_eq]) <;> rfl) (by (try delta runD.sl.r_8); (try delta runD.sl.r_7); (try delta runD.sl.r_6); (try delta runD.sl.r_5); (try delta runD.sl.r_4); (try delta runD.sl.r_3); (try delta runD.sl.r_2); (try delta runD.sl.r_1); (try delta runD.sl.r); (try delta runD.sl.v120); (try delta runD.sl.v54); (try delta runD.sl.v87); (try simp only [ld_x, ld_v, ld_m, ld_w0, ld_w1, ld_w2, ld_w3, ld_s0, ld_s1, ld_s2, ld_s3, ld_x', ld_v', ld_m', ld_w0', ld_w1', ld_w2', ld_w3', ld_s0', ld_s1', ld_s2', ld_s3', cov_m, pay3_eq, pay4_eq, pay8_eq, pay9_eq]) <;> rfl) (by (try delta runD.sl.r_8); (try delta runD.sl.r_7); (try delta runD.sl.r_6); (try delta runD.sl.r_5); (try delta runD.sl.r_4); (try delta runD.sl.r_3); (try delta runD.sl.r_2); (try delta runD.sl.r_1); (try delta runD.sl.r); (try delta runD.sl.v120); (try delta runD.sl.v54); (try delta runD.sl.v87); (try simp only [ld_x, ld_v, ld_m, ld_w0, ld_w1, ld_w2, ld_w3, ld_s0, ld_s1, ld_s2, ld_s3, ld_x', ld_v', ld_m', ld_w0', ld_w1', ld_w2', ld_w3', ld_s0', ld_s1', ld_s2', ld_s3', cov_m, pay3_eq, pay4_eq, pay8_eq, pay9_eq]) <;> rfl) (by (try delta runD.sl.r_8); (try delta runD.sl.r_7); (try delta runD.sl.r_6); (try delta runD.sl.r_5); (try delta runD.sl.r_4); (try delta runD.sl.r_3); (try delta runD.sl.r_2); (try delta runD.sl.r_1); (try delta runD.sl.r); (try delta runD.sl.v120); (try delta runD.sl.v54); (try delta runD.sl.v87); (try simp only [ld_x, ld_v, ld_m, ld_w0, ld_w1, ld_w2, ld_w3, ld_s0, ld_s1, ld_s2, ld_s3, ld_x', ld_v', ld_m', ld_w0', ld_w1', ld_w2', ld_w3', ld_s0', ld_s1', ld_s2', ld_s3', cov_m, pay3_eq, pay4_eq, pay8_eq, pay9_eq]) <;> rfl)
  isplitl [HS1]
  · iexists _; isplitr; swap; · iexact HS1
    ipureintro; exact (st_full _ _ (by decide) _ _).trans (by (try delta runD.sl.r_8); (try delta runD.sl.r_7); (try delta runD.sl.r_6); (try delta runD.sl.r_5); (try delta runD.sl.r_4); (try delta runD.sl.r_3); (try delta runD.sl.r_2); (try delta runD.sl.r_1); (try delta runD.sl.r); (try delta runD.sl.v120); (try delta runD.sl.v54); (try delta runD.sl.v87); (try simp only [ld_x, ld_v, ld_m, ld_w0, ld_w1, ld_w2, ld_w3, ld_s0, ld_s1, ld_s2, ld_s3, ld_x', ld_v', ld_m', ld_w0', ld_w1', ld_w2', ld_w3', ld_s0', ld_s1', ld_s2', ld_s3', cov_m, pay3_eq, pay4_eq, pay8_eq, pay9_eq]) <;> rfl)
  isplitl [HS2]
  · iexists _; isplitr; swap; · iexact HS2
    ipureintro; exact harg10.read_unread _
  iexists _; isplitr; swap; · iexact HS3
  ipureintro; exact harg11.read_unread _

end Cert.KernelIdeal.Gen

end
-- ==== Proof.RunE.lean ====
/- The body's run in case E (a middle row, column blocks 1 to 5): from any contents of its buffers, what every buffer holds afterwards. -/
module

public import proofs.«01_k».proof.Proof.RunD

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body in case E (a middle row, column blocks 1 to 5). -/
theorem runE (c : Dev nD) (i : grid0.Coords) (arg2 : Memref sig .tc .vmem S512x3584 .fp8e4m3) (harg2 : arg2.IsWhole) (arg3 : Memref sig .tc .vmem S512x1 .f32) (harg3 : arg3.IsWhole) (arg4 : Memref sig .tc .vmem S3584x2048 .fp8e4m3) (harg4 : arg4.IsWhole) (arg5 : Memref sig .tc .vmem S1x2048 .f32) (harg5 : arg5.IsWhole) (arg6 : Memref sig .tc .vmem S512x1 .f32) (harg6 : arg6.IsWhole) (arg7 : Memref sig .tc .vmem S512x2048 .fp8e4m3) (harg7 : arg7.IsWhole) (arg8 : Memref sig .tc .vmem S7x512x2048 .f32) (harg8 : arg8.IsWhole) (arg9 : Memref sig .tc .vmem S512x128 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc3 : cond0_3 i) (hc4 : ¬cond0_4 i) (hc5 : ¬cond0_5 i) (hc6 : ¬cond0_6 i) (hc7 : cond0_7 i)
    (x0 : Vec F S512x3584 .fp8e4m3) (x1 : Vec F S512x1 .f32) (x2 : Vec F S3584x2048 .fp8e4m3) (x3 : Vec F S1x2048 .f32) (x6 : Vec F S512x1 .f32) (x7 : Vec F S512x2048 .fp8e4m3) (x8 : Vec F S7x512x2048 .f32) (x9 : Vec F S512x128 .f32) (x10 x11 : Vec F S512x1 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x10 ∗ owns (c : Thread nD τ) arg7 fullShare (tileC x11 (i 1) x8) ∗ owns (c : Thread nD τ) arg8 fullShare (setTile (i 1) (tileY x0 x1 x2 x3) x8) ∗ owns (c : Thread nD τ) arg9 fullShare (addM x9 (tileM x0 x1 x2 x3)) ∗ owns (c : Thread nD τ) arg10 fullShare x10 ∗ owns (c : Thread nD τ) arg11 fullShare x11) -∗ K ⟨⟩))
    ⊢ wp frame (wpE (defs₀ (F := F)) Variants.none c none) E (cc0_fp8_linear_requant i arg2 harg2 arg3 harg3 arg4 harg4 arg5 harg5 arg6 harg6 arg7 harg7 arg8 harg8 arg9 harg9 arg10 harg10 arg11 harg11) K := by
  simp only [cc0_fp8_linear_requant_eq_skeleton]; unfold cc0_fp8_linear_requant_skel
  simp only [k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, HS0⟩, ⟨%f7, %hf7, HS1⟩, ⟨%f8, %hf8, HS2⟩, ⟨%f9, %hf9, HS3⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
  sl_exec (disch := first | sl_exact hc0 | sl_exact hc3 | sl_exact hc4 | sl_exact hc5 | sl_exact hc6 | sl_exact hc7)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; exact (st_full _ _ (by decide) _ _).trans (by (try delta runE.sl.r_8); (try delta runE.sl.r_7); (try delta runE.sl.r_6); (try delta runE.sl.r_5); (try delta runE.sl.r_4); (try delta runE.sl.r_3); (try delta runE.sl.r_2); (try delta runE.sl.r_1); (try delta runE.sl.r); (try delta runE.sl.v120); (try delta runE.sl.v54); (try delta runE.sl.v87); (try simp only [ld_x, ld_v, ld_m, ld_w0, ld_w1, ld_w2, ld_w3, ld_s0, ld_s1, ld_s2, ld_s3, ld_x', ld_v', ld_m', ld_w0', ld_w1', ld_w2', ld_w3', ld_s0', ld_s1', ld_s2', ld_s3', cov_m, pay3_eq, pay4_eq, pay8_eq, pay9_eq]) <;> rfl)
  isplitl [H5]
  · iexists _; isplitr; swap; · iexact H5
    ipureintro; exact st_codes _ (fun q => k0_pay25 x11 (colsY (i 1) q x8)) _ _ _ _ _ _ _ _ (by (try delta runE.sl.r_8); (try delta runE.sl.r_7); (try delta runE.sl.r_6); (try delta runE.sl.r_5); (try delta runE.sl.r_4); (try delta runE.sl.r_3); (try delta runE.sl.r_2); (try delta runE.sl.r_1); (try delta runE.sl.r); (try delta runE.sl.v120); (try delta runE.sl.v54); (try delta runE.sl.v87); simp only [ld_y harg8 x8 (i 1) 0 _ (k0_off5_eq i), ld_y' harg8 x8 (i 1) 0 _ (k0_off5_eq i), ld_v, ld_v'] <;> rfl) (by (try delta runE.sl.r_8); (try delta runE.sl.r_7); (try delta runE.sl.r_6); (try delta runE.sl.r_5); (try delta runE.sl.r_4); (try delta runE.sl.r_3); (try delta runE.sl.r_2); (try delta runE.sl.r_1); (try delta runE.sl.r); (try delta runE.sl.v120); (try delta runE.sl.v54); (try delta runE.sl.v87); simp only [ld_y harg8 x8 (i 1) 1 _ (k0_off6_eq i), ld_y' harg8 x8 (i 1) 1 _ (k0_off6_eq i), ld_v, ld_v'] <;> rfl) (by (try delta runE.sl.r_8); (try delta runE.sl.r_7); (try delta runE.sl.r_6); (try delta runE.sl.r_5); (try delta runE.sl.r_4); (try delta runE.sl.r_3); (try delta runE.sl.r_2); (try delta runE.sl.r_1); (try delta runE.sl.r); (try delta runE.sl.v120); (try delta runE.sl.v54); (try delta runE.sl.v87); simp only [ld_y harg8 x8 (i 1) 2 _ (k0_off7_eq i), ld_y' harg8 x8 (i 1) 2 _ (k0_off7_eq i), ld_v, ld_v'] <;> rfl) (by (try delta runE.sl.r_8); (try delta runE.sl.r_7); (try delta runE.sl.r_6); (try delta runE.sl.r_5); (try delta runE.sl.r_4); (try delta runE.sl.r_3); (try delta runE.sl.r_2); (try delta runE.sl.r_1); (try delta runE.sl.r); (try delta runE.sl.v120); (try delta runE.sl.v54); (try delta runE.sl.v87); simp only [ld_y harg8 x8 (i 1) 3 _ (k0_off8_eq i), ld_y' harg8 x8 (i 1) 3 _ (k0_off8_eq i), ld_v, ld_v'] <;> rfl)
  isplitl [HS0]
  · iexists _; isplitr; swap; · iexact HS0
    ipureintro; exact st_tile harg8 x8 (i 1) (chunkY x0 x1 x2 x3) _ _ _ _ (k0_off5_eq i) (k0_off6_eq i) (k0_off7_eq i) (k0_off8_eq i) _ _ _ _ _ _ _ _ (by (try delta runE.sl.r_8); (try delta runE.sl.r_7); (try delta runE.sl.r_6); (try delta runE.sl.r_5); (try delta runE.sl.r_4); (try delta runE.sl.r_3); (try delta runE.sl.r_2); (try delta runE.sl.r_1); (try delta runE.sl.r); (try delta runE.sl.v120); (try delta runE.sl.v54); (try delta runE.sl.v87); (try simp only [ld_x, ld_v, ld_m, ld_w0, ld_w1, ld_w2, ld_w3, ld_s0, ld_s1, ld_s2, ld_s3, ld_x', ld_v', ld_m', ld_w0', ld_w1', ld_w2', ld_w3', ld_s0', ld_s1', ld_s2', ld_s3', cov_m, pay3_eq, pay4_eq, pay8_eq, pay9_eq]) <;> rfl) (by (try delta runE.sl.r_8); (try delta runE.sl.r_7); (try delta runE.sl.r_6); (try delta runE.sl.r_5); (try delta runE.sl.r_4); (try delta runE.sl.r_3); (try delta runE.sl.r_2); (try delta runE.sl.r_1); (try delta runE.sl.r); (try delta runE.sl.v120); (try delta runE.sl.v54); (try delta runE.sl.v87); (try simp only [ld_x, ld_v, ld_m, ld_w0, ld_w1, ld_w2, ld_w3, ld_s0, ld_s1, ld_s2, ld_s3, ld_x', ld_v', ld_m', ld_w0', ld_w1', ld_w2', ld_w3', ld_s0', ld_s1', ld_s2', ld_s3', cov_m, pay3_eq, pay4_eq, pay8_eq, pay9_eq]) <;> rfl) (by (try delta runE.sl.r_8); (try delta runE.sl.r_7); (try delta runE.sl.r_6); (try delta runE.sl.r_5); (try delta runE.sl.r_4); (try delta runE.sl.r_3); (try delta runE.sl.r_2); (try delta runE.sl.r_1); (try delta runE.sl.r); (try delta runE.sl.v120); (try delta runE.sl.v54); (try delta runE.sl.v87); (try simp only [ld_x, ld_v, ld_m, ld_w0, ld_w1, ld_w2, ld_w3, ld_s0, ld_s1, ld_s2, ld_s3, ld_x', ld_v', ld_m', ld_w0', ld_w1', ld_w2', ld_w3', ld_s0', ld_s1', ld_s2', ld_s3', cov_m, pay3_eq, pay4_eq, pay8_eq, pay9_eq]) <;> rfl) (by (try delta runE.sl.r_8); (try delta runE.sl.r_7); (try delta runE.sl.r_6); (try delta runE.sl.r_5); (try delta runE.sl.r_4); (try delta runE.sl.r_3); (try delta runE.sl.r_2); (try delta runE.sl.r_1); (try delta runE.sl.r); (try delta runE.sl.v120); (try delta runE.sl.v54); (try delta runE.sl.v87); (try simp only [ld_x, ld_v, ld_m, ld_w0, ld_w1, ld_w2, ld_w3, ld_s0, ld_s1, ld_s2, ld_s3, ld_x', ld_v', ld_m', ld_w0', ld_w1', ld_w2', ld_w3', ld_s0', ld_s1', ld_s2', ld_s3', cov_m, pay3_eq, pay4_eq, pay8_eq, pay9_eq]) <;> rfl)
  isplitl [HS1]
  · iexists _; isplitr; swap; · iexact HS1
    ipureintro; exact (st_full _ _ (by decide) _ _).trans (by (try delta runE.sl.r_8); (try delta runE.sl.r_7); (try delta runE.sl.r_6); (try delta runE.sl.r_5); (try delta runE.sl.r_4); (try delta runE.sl.r_3); (try delta runE.sl.r_2); (try delta runE.sl.r_1); (try delta runE.sl.r); (try delta runE.sl.v120); (try delta runE.sl.v54); (try delta runE.sl.v87); (try simp only [ld_x, ld_v, ld_m, ld_w0, ld_w1, ld_w2, ld_w3, ld_s0, ld_s1, ld_s2, ld_s3, ld_x', ld_v', ld_m', ld_w0', ld_w1', ld_w2', ld_w3', ld_s0', ld_s1', ld_s2', ld_s3', cov_m, pay3_eq, pay4_eq, pay8_eq, pay9_eq]) <;> rfl)
  isplitl [HS2]
  · iexists _; isplitr; swap; · iexact HS2
    ipureintro; exact harg10.read_unread _
  iexists _; isplitr; swap; · iexact HS3
  ipureintro; exact harg11.read_unread _

end Cert.KernelIdeal.Gen

end
-- ==== Proof.RunF.lean ====
/- The body's run in case F (a middle row, last column block): from any contents of its buffers, what every buffer holds afterwards. -/
module

public import proofs.«01_k».proof.Proof.RunE

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body in case F (a middle row, last column block). -/
theorem runF (c : Dev nD) (i : grid0.Coords) (arg2 : Memref sig .tc .vmem S512x3584 .fp8e4m3) (harg2 : arg2.IsWhole) (arg3 : Memref sig .tc .vmem S512x1 .f32) (harg3 : arg3.IsWhole) (arg4 : Memref sig .tc .vmem S3584x2048 .fp8e4m3) (harg4 : arg4.IsWhole) (arg5 : Memref sig .tc .vmem S1x2048 .f32) (harg5 : arg5.IsWhole) (arg6 : Memref sig .tc .vmem S512x1 .f32) (harg6 : arg6.IsWhole) (arg7 : Memref sig .tc .vmem S512x2048 .fp8e4m3) (harg7 : arg7.IsWhole) (arg8 : Memref sig .tc .vmem S7x512x2048 .f32) (harg8 : arg8.IsWhole) (arg9 : Memref sig .tc .vmem S512x128 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc3 : cond0_3 i) (hc4 : ¬cond0_4 i) (hc5 : cond0_5 i) (hc6 : ¬cond0_6 i) (hc7 : cond0_7 i)
    (x0 : Vec F S512x3584 .fp8e4m3) (x1 : Vec F S512x1 .f32) (x2 : Vec F S3584x2048 .fp8e4m3) (x3 : Vec F S1x2048 .f32) (x6 : Vec F S512x1 .f32) (x7 : Vec F S512x2048 .fp8e4m3) (x8 : Vec F S7x512x2048 .f32) (x9 : Vec F S512x128 .f32) (x10 x11 : Vec F S512x1 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x10 ∗ owns (c : Thread nD τ) arg7 fullShare (tileC x11 (i 1) x8) ∗ owns (c : Thread nD τ) arg8 fullShare (setTile (i 1) (tileY x0 x1 x2 x3) x8) ∗ owns (c : Thread nD τ) arg9 fullShare (addM x9 (tileM x0 x1 x2 x3)) ∗ owns (c : Thread nD τ) arg10 fullShare (scaleOf (addM x9 (tileM x0 x1 x2 x3))) ∗ owns (c : Thread nD τ) arg11 fullShare (invOf (addM x9 (tileM x0 x1 x2 x3)))) -∗ K ⟨⟩))
    ⊢ wp frame (wpE (defs₀ (F := F)) Variants.none c none) E (cc0_fp8_linear_requant i arg2 harg2 arg3 harg3 arg4 harg4 arg5 harg5 arg6 harg6 arg7 harg7 arg8 harg8 arg9 harg9 arg10 harg10 arg11 harg11) K := by
  simp only [cc0_fp8_linear_requant_eq_skeleton]; unfold cc0_fp8_linear_requant_skel
  simp only [k0_part3_eq_skeleton, k0_part4_eq_skeleton, k0_part5_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, HS0⟩, ⟨%f7, %hf7, HS1⟩, ⟨%f8, %hf8, HS2⟩, ⟨%f9, %hf9, HS3⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
  sl_exec (disch := first | sl_exact hc0 | sl_exact hc3 | sl_exact hc4 | sl_exact hc5 | sl_exact hc6 | sl_exact hc7)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; exact (st_full _ _ (by decide) _ _).trans (by (try delta runF.sl.v16); (try delta runF.sl.HS1_1); (try delta runF.sl.r_14); (try delta runF.sl.r_13); (try delta runF.sl.r_12); (try delta runF.sl.r_11); (try delta runF.sl.r_10); (try delta runF.sl.r_9); (try delta runF.sl.r_8); (try delta runF.sl.r_7); (try delta runF.sl.r_6); (try delta runF.sl.r_5); (try delta runF.sl.r_4); (try delta runF.sl.r_3); (try delta runF.sl.r_2); (try delta runF.sl.r_1); (try delta runF.sl.r); (try delta runF.sl.v120); (try delta runF.sl.v54); (try delta runF.sl.v87); (try simp only [ld_x, ld_v, ld_m, ld_w0, ld_w1, ld_w2, ld_w3, ld_s0, ld_s1, ld_s2, ld_s3, ld_x', ld_v', ld_m', ld_w0', ld_w1', ld_w2', ld_w3', ld_s0', ld_s1', ld_s2', ld_s3', cov_m, pay3_eq, pay4_eq, pay8_eq, pay9_eq]) <;> rfl)
  isplitl [H5]
  · iexists _; isplitr; swap; · iexact H5
    ipureintro; exact st_codes _ (fun q => k0_pay25 x11 (colsY (i 1) q x8)) _ _ _ _ _ _ _ _ (by (try delta runF.sl.v16); (try delta runF.sl.HS1_1); (try delta runF.sl.r_14); (try delta runF.sl.r_13); (try delta runF.sl.r_12); (try delta runF.sl.r_11); (try delta runF.sl.r_10); (try delta runF.sl.r_9); (try delta runF.sl.r_8); (try delta runF.sl.r_7); (try delta runF.sl.r_6); (try delta runF.sl.r_5); (try delta runF.sl.r_4); (try delta runF.sl.r_3); (try delta runF.sl.r_2); (try delta runF.sl.r_1); (try delta runF.sl.r); (try delta runF.sl.v120); (try delta runF.sl.v54); (try delta runF.sl.v87); simp only [ld_y harg8 x8 (i 1) 0 _ (k0_off5_eq i), ld_y' harg8 x8 (i 1) 0 _ (k0_off5_eq i), ld_v, ld_v'] <;> rfl) (by (try delta runF.sl.v16); (try delta runF.sl.HS1_1); (try delta runF.sl.r_14); (try delta runF.sl.r_13); (try delta runF.sl.r_12); (try delta runF.sl.r_11); (try delta runF.sl.r_10); (try delta runF.sl.r_9); (try delta runF.sl.r_8); (try delta runF.sl.r_7); (try delta runF.sl.r_6); (try delta runF.sl.r_5); (try delta runF.sl.r_4); (try delta runF.sl.r_3); (try delta runF.sl.r_2); (try delta runF.sl.r_1); (try delta runF.sl.r); (try delta runF.sl.v120); (try delta runF.sl.v54); (try delta runF.sl.v87); simp only [ld_y harg8 x8 (i 1) 1 _ (k0_off6_eq i), ld_y' harg8 x8 (i 1) 1 _ (k0_off6_eq i), ld_v, ld_v'] <;> rfl) (by (try delta runF.sl.v16); (try delta runF.sl.HS1_1); (try delta runF.sl.r_14); (try delta runF.sl.r_13); (try delta runF.sl.r_12); (try delta runF.sl.r_11); (try delta runF.sl.r_10); (try delta runF.sl.r_9); (try delta runF.sl.r_8); (try delta runF.sl.r_7); (try delta runF.sl.r_6); (try delta runF.sl.r_5); (try delta runF.sl.r_4); (try delta runF.sl.r_3); (try delta runF.sl.r_2); (try delta runF.sl.r_1); (try delta runF.sl.r); (try delta runF.sl.v120); (try delta runF.sl.v54); (try delta runF.sl.v87); simp only [ld_y harg8 x8 (i 1) 2 _ (k0_off7_eq i), ld_y' harg8 x8 (i 1) 2 _ (k0_off7_eq i), ld_v, ld_v'] <;> rfl) (by (try delta runF.sl.v16); (try delta runF.sl.HS1_1); (try delta runF.sl.r_14); (try delta runF.sl.r_13); (try delta runF.sl.r_12); (try delta runF.sl.r_11); (try delta runF.sl.r_10); (try delta runF.sl.r_9); (try delta runF.sl.r_8); (try delta runF.sl.r_7); (try delta runF.sl.r_6); (try delta runF.sl.r_5); (try delta runF.sl.r_4); (try delta runF.sl.r_3); (try delta runF.sl.r_2); (try delta runF.sl.r_1); (try delta runF.sl.r); (try delta runF.sl.v120); (try delta runF.sl.v54); (try delta runF.sl.v87); simp only [ld_y harg8 x8 (i 1) 3 _ (k0_off8_eq i), ld_y' harg8 x8 (i 1) 3 _ (k0_off8_eq i), ld_v, ld_v'] <;> rfl)
  isplitl [HS0]
  · iexists _; isplitr; swap; · iexact HS0
    ipureintro; exact st_tile harg8 x8 (i 1) (chunkY x0 x1 x2 x3) _ _ _ _ (k0_off5_eq i) (k0_off6_eq i) (k0_off7_eq i) (k0_off8_eq i) _ _ _ _ _ _ _ _ (by (try delta runF.sl.v16); (try delta runF.sl.HS1_1); (try delta runF.sl.r_14); (try delta runF.sl.r_13); (try delta runF.sl.r_12); (try delta runF.sl.r_11); (try delta runF.sl.r_10); (try delta runF.sl.r_9); (try delta runF.sl.r_8); (try delta runF.sl.r_7); (try delta runF.sl.r_6); (try delta runF.sl.r_5); (try delta runF.sl.r_4); (try delta runF.sl.r_3); (try delta runF.sl.r_2); (try delta runF.sl.r_1); (try delta runF.sl.r); (try delta runF.sl.v120); (try delta runF.sl.v54); (try delta runF.sl.v87); (try simp only [ld_x, ld_v, ld_m, ld_w0, ld_w1, ld_w2, ld_w3, ld_s0, ld_s1, ld_s2, ld_s3, ld_x', ld_v', ld_m', ld_w0', ld_w1', ld_w2', ld_w3', ld_s0', ld_s1', ld_s2', ld_s3', cov_m, pay3_eq, pay4_eq, pay8_eq, pay9_eq]) <;> rfl) (by (try delta runF.sl.v16); (try delta runF.sl.HS1_1); (try delta runF.sl.r_14); (try delta runF.sl.r_13); (try delta runF.sl.r_12); (try delta runF.sl.r_11); (try delta runF.sl.r_10); (try delta runF.sl.r_9); (try delta runF.sl.r_8); (try delta runF.sl.r_7); (try delta runF.sl.r_6); (try delta runF.sl.r_5); (try delta runF.sl.r_4); (try delta runF.sl.r_3); (try delta runF.sl.r_2); (try delta runF.sl.r_1); (try delta runF.sl.r); (try delta runF.sl.v120); (try delta runF.sl.v54); (try delta runF.sl.v87); (try simp only [ld_x, ld_v, ld_m, ld_w0, ld_w1, ld_w2, ld_w3, ld_s0, ld_s1, ld_s2, ld_s3, ld_x', ld_v', ld_m', ld_w0', ld_w1', ld_w2', ld_w3', ld_s0', ld_s1', ld_s2', ld_s3', cov_m, pay3_eq, pay4_eq, pay8_eq, pay9_eq]) <;> rfl) (by (try delta runF.sl.v16); (try delta runF.sl.HS1_1); (try delta runF.sl.r_14); (try delta runF.sl.r_13); (try delta runF.sl.r_12); (try delta runF.sl.r_11); (try delta runF.sl.r_10); (try delta runF.sl.r_9); (try delta runF.sl.r_8); (try delta runF.sl.r_7); (try delta runF.sl.r_6); (try delta runF.sl.r_5); (try delta runF.sl.r_4); (try delta runF.sl.r_3); (try delta runF.sl.r_2); (try delta runF.sl.r_1); (try delta runF.sl.r); (try delta runF.sl.v120); (try delta runF.sl.v54); (try delta runF.sl.v87); (try simp only [ld_x, ld_v, ld_m, ld_w0, ld_w1, ld_w2, ld_w3, ld_s0, ld_s1, ld_s2, ld_s3, ld_x', ld_v', ld_m', ld_w0', ld_w1', ld_w2', ld_w3', ld_s0', ld_s1', ld_s2', ld_s3', cov_m, pay3_eq, pay4_eq, pay8_eq, pay9_eq]) <;> rfl) (by (try delta runF.sl.v16); (try delta runF.sl.HS1_1); (try delta runF.sl.r_14); (try delta runF.sl.r_13); (try delta runF.sl.r_12); (try delta runF.sl.r_11); (try delta runF.sl.r_10); (try delta runF.sl.r_9); (try delta runF.sl.r_8); (try delta runF.sl.r_7); (try delta runF.sl.r_6); (try delta runF.sl.r_5); (try delta runF.sl.r_4); (try delta runF.sl.r_3); (try delta runF.sl.r_2); (try delta runF.sl.r_1); (try delta runF.sl.r); (try delta runF.sl.v120); (try delta runF.sl.v54); (try delta runF.sl.v87); (try simp only [ld_x, ld_v, ld_m, ld_w0, ld_w1, ld_w2, ld_w3, ld_s0, ld_s1, ld_s2, ld_s3, ld_x', ld_v', ld_m', ld_w0', ld_w1', ld_w2', ld_w3', ld_s0', ld_s1', ld_s2', ld_s3', cov_m, pay3_eq, pay4_eq, pay8_eq, pay9_eq]) <;> rfl)
  isplitl [HS1]
  · iexists _; isplitr; swap; · iexact HS1
    ipureintro; exact (st_full _ _ (by decide) _ _).trans (by (try delta runF.sl.v16); (try delta runF.sl.HS1_1); (try delta runF.sl.r_14); (try delta runF.sl.r_13); (try delta runF.sl.r_12); (try delta runF.sl.r_11); (try delta runF.sl.r_10); (try delta runF.sl.r_9); (try delta runF.sl.r_8); (try delta runF.sl.r_7); (try delta runF.sl.r_6); (try delta runF.sl.r_5); (try delta runF.sl.r_4); (try delta runF.sl.r_3); (try delta runF.sl.r_2); (try delta runF.sl.r_1); (try delta runF.sl.r); (try delta runF.sl.v120); (try delta runF.sl.v54); (try delta runF.sl.v87); (try simp only [ld_x, ld_v, ld_m, ld_w0, ld_w1, ld_w2, ld_w3, ld_s0, ld_s1, ld_s2, ld_s3, ld_x', ld_v', ld_m', ld_w0', ld_w1', ld_w2', ld_w3', ld_s0', ld_s1', ld_s2', ld_s3', cov_m, pay3_eq, pay4_eq, pay8_eq, pay9_eq]) <;> rfl)
  isplitl [HS2]
  · iexists _; isplitr; swap; · iexact HS2
    ipureintro; exact (st_full _ _ (by decide) _ _).trans (congrArg scaleOf (show _ = addM x9 (tileM x0 x1 x2 x3) from by (try delta runF.sl.v16); (try delta runF.sl.HS1_1); (try delta runF.sl.r_14); (try delta runF.sl.r_13); (try delta runF.sl.r_12); (try delta runF.sl.r_11); (try delta runF.sl.r_10); (try delta runF.sl.r_9); (try delta runF.sl.r_8); (try delta runF.sl.r_7); (try delta runF.sl.r_6); (try delta runF.sl.r_5); (try delta runF.sl.r_4); (try delta runF.sl.r_3); (try delta runF.sl.r_2); (try delta runF.sl.r_1); (try delta runF.sl.r); (try delta runF.sl.v120); (try delta runF.sl.v54); (try delta runF.sl.v87); (try simp only [ld_x, ld_v, ld_m, ld_w0, ld_w1, ld_w2, ld_w3, ld_s0, ld_s1, ld_s2, ld_s3, ld_x', ld_v', ld_m', ld_w0', ld_w1', ld_w2', ld_w3', ld_s0', ld_s1', ld_s2', ld_s3', cov_m, pay3_eq, pay4_eq, pay8_eq, pay9_eq]) ; exact (cov_m _ _ _).trans rfl))
  iexists _; isplitr; swap; · iexact HS3
  ipureintro; exact (st_full _ _ (by decide) _ _).trans (congrArg invOf (show _ = addM x9 (tileM x0 x1 x2 x3) from by (try delta runF.sl.v16); (try delta runF.sl.HS1_1); (try delta runF.sl.r_14); (try delta runF.sl.r_13); (try delta runF.sl.r_12); (try delta runF.sl.r_11); (try delta runF.sl.r_10); (try delta runF.sl.r_9); (try delta runF.sl.r_8); (try delta runF.sl.r_7); (try delta runF.sl.r_6); (try delta runF.sl.r_5); (try delta runF.sl.r_4); (try delta runF.sl.r_3); (try delta runF.sl.r_2); (try delta runF.sl.r_1); (try delta runF.sl.r); (try delta runF.sl.v120); (try delta runF.sl.v54); (try delta runF.sl.v87); (try simp only [ld_x, ld_v, ld_m, ld_w0, ld_w1, ld_w2, ld_w3, ld_s0, ld_s1, ld_s2, ld_s3, ld_x', ld_v', ld_m', ld_w0', ld_w1', ld_w2', ld_w3', ld_s0', ld_s1', ld_s2', ld_s3', cov_m, pay3_eq, pay4_eq, pay8_eq, pay9_eq]) ; exact (cov_m _ _ _).trans rfl))

end Cert.KernelIdeal.Gen

end
-- ==== Proof.RunG.lean ====
/- The body's run in case G (the last row, which only emits): from any contents of its buffers, what every buffer holds afterwards. -/
module

public import proofs.«01_k».proof.Proof.RunF

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body in case G (the last row, which only emits). -/
theorem runG (c : Dev nD) (i : grid0.Coords) (arg2 : Memref sig .tc .vmem S512x3584 .fp8e4m3) (harg2 : arg2.IsWhole) (arg3 : Memref sig .tc .vmem S512x1 .f32) (harg3 : arg3.IsWhole) (arg4 : Memref sig .tc .vmem S3584x2048 .fp8e4m3) (harg4 : arg4.IsWhole) (arg5 : Memref sig .tc .vmem S1x2048 .f32) (harg5 : arg5.IsWhole) (arg6 : Memref sig .tc .vmem S512x1 .f32) (harg6 : arg6.IsWhole) (arg7 : Memref sig .tc .vmem S512x2048 .fp8e4m3) (harg7 : arg7.IsWhole) (arg8 : Memref sig .tc .vmem S7x512x2048 .f32) (harg8 : arg8.IsWhole) (arg9 : Memref sig .tc .vmem S512x128 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc3 : ¬cond0_3 i) (hc4 : cond0_4 i) (hc5 : ¬cond0_5 i)
    (x0 : Vec F S512x3584 .fp8e4m3) (x1 : Vec F S512x1 .f32) (x2 : Vec F S3584x2048 .fp8e4m3) (x3 : Vec F S1x2048 .f32) (x6 : Vec F S512x1 .f32) (x7 : Vec F S512x2048 .fp8e4m3) (x8 : Vec F S7x512x2048 .f32) (x9 : Vec F S512x128 .f32) (x10 x11 : Vec F S512x1 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x10 ∗ owns (c : Thread nD τ) arg7 fullShare (tileC x11 (i 1) x8) ∗ owns (c : Thread nD τ) arg8 fullShare x8 ∗ owns (c : Thread nD τ) arg9 fullShare x9 ∗ owns (c : Thread nD τ) arg10 fullShare x10 ∗ owns (c : Thread nD τ) arg11 fullShare x11) -∗ K ⟨⟩))
    ⊢ wp frame (wpE (defs₀ (F := F)) Variants.none c none) E (cc0_fp8_linear_requant i arg2 harg2 arg3 harg3 arg4 harg4 arg5 harg5 arg6 harg6 arg7 harg7 arg8 harg8 arg9 harg9 arg10 harg10 arg11 harg11) K := by
  simp only [cc0_fp8_linear_requant_eq_skeleton]; unfold cc0_fp8_linear_requant_skel
  simp only [k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, HS0⟩, ⟨%f7, %hf7, HS1⟩, ⟨%f8, %hf8, HS2⟩, ⟨%f9, %hf9, HS3⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
  sl_exec (disch := first | sl_exact hc0 | sl_exact hc3 | sl_exact hc4 | sl_exact hc5)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; exact (st_full _ _ (by decide) _ _).trans (by (try delta runG.sl.r_1); (try delta runG.sl.r); (try simp only [ld_x, ld_v, ld_m, ld_w0, ld_w1, ld_w2, ld_w3, ld_s0, ld_s1, ld_s2, ld_s3, ld_x', ld_v', ld_m', ld_w0', ld_w1', ld_w2', ld_w3', ld_s0', ld_s1', ld_s2', ld_s3', cov_m, pay3_eq, pay4_eq, pay8_eq, pay9_eq]) <;> rfl)
  isplitl [H5]
  · iexists _; isplitr; swap; · iexact H5
    ipureintro; exact st_codes _ (fun q => k0_pay25 x11 (colsY (i 1) q x8)) _ _ _ _ _ _ _ _ (by (try delta runG.sl.r_1); (try delta runG.sl.r); simp only [ld_y harg8 x8 (i 1) 0 _ (k0_off9_eq i), ld_y' harg8 x8 (i 1) 0 _ (k0_off9_eq i), ld_v, ld_v'] <;> rfl) (by (try delta runG.sl.r_1); (try delta runG.sl.r); simp only [ld_y harg8 x8 (i 1) 1 _ (k0_off10_eq i), ld_y' harg8 x8 (i 1) 1 _ (k0_off10_eq i), ld_v, ld_v'] <;> rfl) (by (try delta runG.sl.r_1); (try delta runG.sl.r); simp only [ld_y harg8 x8 (i 1) 2 _ (k0_off11_eq i), ld_y' harg8 x8 (i 1) 2 _ (k0_off11_eq i), ld_v, ld_v'] <;> rfl) (by (try delta runG.sl.r_1); (try delta runG.sl.r); simp only [ld_y harg8 x8 (i 1) 3 _ (k0_off12_eq i), ld_y' harg8 x8 (i 1) 3 _ (k0_off12_eq i), ld_v, ld_v'] <;> rfl)
  isplitl [HS0]
  · iexists _; isplitr; swap; · iexact HS0
    ipureintro; exact harg8.read_unread _
  isplitl [HS1]
  · iexists _; isplitr; swap; · iexact HS1
    ipureintro; exact harg9.read_unread _
  isplitl [HS2]
  · iexists _; isplitr; swap; · iexact HS2
    ipureintro; exact harg10.read_unread _
  iexists _; isplitr; swap; · iexact HS3
  ipureintro; exact harg11.read_unread _

end Cert.KernelIdeal.Gen

end
-- ==== Proof.Cert.lean ====
/- The certificate of the kernel's run: the contents of its windows and scratch buffers at every grid point, the body's triple there,
   and the run of the whole program with its two output arrays at what the windows' write-backs leave. -/
module

public import proofs.«01_k».proof.Proof.State
public import proofs.«01_k».proof.Proof.RunG
public import Idealize.ShloMosaic.Lib.Pipeline.FrameBody
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The invariant between points: the scratch buffers at contents of which `Inv` holds, the generator register at some state. -/
def PhiS (c : Dev nD) (n : ℕ) : sProp 𝕄 :=
  iprop((∃ y, ∃ am, ∃ sc, ∃ iv, ⌜Inv m c n y am sc iv⌝ ∗ owns (c : Thread nD τ) scM0_0 fullShare y ∗ owns (c : Thread nD τ) scM0_1 fullShare am
    ∗ owns (c : Thread nD τ) scM0_2 fullShare sc ∗ owns (c : Thread nD τ) scM0_3 fullShare iv) ∗ (∃ r, prngReg c r))

/-- The proof data: every input window keeps its block; the outputs' windows hold, from the second row block on, the scale of the row
    block above and the codes of the tile seven points before. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outScale m c t
    | ⟨5, _⟩ => outCodes m c t
    | ⟨_ + 6, h⟩ => absurd h (Nat.not_lt.2 (Nat.le_add_left _ _))
  Φ t := PhiS m c t.val
  q _ := fullShare
  owed _ := 0

/-- The proof data's arrays are the launch memory's. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outScale m c t := by dsimp only [dats]
theorem after0_5 (c : Dev nD) (t : Fin cfg0.N) : (dats m 0 c).after 5 t = outCodes m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## What is left in each window -/

theorem leaves0 (c : Dev nD) (t : Fin cfg0.N) :
    (dats m 0 c).leavesExact 0 t = owns (c : Thread nD τ) (ms0_0 t) fullShare (iblk m c 0 t) := by
  unfold Dat.leavesExact; rw [liveAt0_0 t, after0_0]

theorem leaves1 (c : Dev nD) (t : Fin cfg0.N) :
    (dats m 0 c).leavesExact 1 t = owns (c : Thread nD τ) (ms0_1 t) fullShare (iblk m c 1 t) := by
  unfold Dat.leavesExact; rw [liveAt0_1 t, after0_1]

theorem leaves2 (c : Dev nD) (t : Fin cfg0.N) :
    (dats m 0 c).leavesExact 2 t = owns (c : Thread nD τ) (ms0_2 t) fullShare (iblk m c 2 t) := by
  unfold Dat.leavesExact; rw [liveAt0_2 t, after0_2]

theorem leaves3 (c : Dev nD) (t : Fin cfg0.N) :
    (dats m 0 c).leavesExact 3 t = owns (c : Thread nD τ) (ms0_3 t) fullShare (iblk m c 3 t) := by
  unfold Dat.leavesExact; rw [liveAt0_3 t, after0_3]

/-- The outputs' windows are idle exactly in the first row block. -/
theorem idle4 : ∀ t : Fin cfg0.N, cfg0.idle 4 (grid0.coords t) = decide (t.val < 7) :=
  (by decide +kernel : ∀ t : Fin grid0.N, idle0 4 (grid0.coords t) = decide (t.val < 7))

theorem idle5 : ∀ t : Fin cfg0.N, cfg0.idle 5 (grid0.coords t) = decide (t.val < 7) :=
  (by decide +kernel : ∀ t : Fin grid0.N, idle0 5 (grid0.coords t) = decide (t.val < 7))

/-- Nothing is written back in the first row block. -/
theorem noflush4 : ∀ t : Fin cfg0.N, t.val < 7 → (cfg0.win 4).flush t = false :=
  (by decide +kernel : ∀ t : Fin grid0.N, t.val < 7 → win0_4.flush t = false)

theorem noflush5 : ∀ t : Fin cfg0.N, t.val < 7 → (cfg0.win 5).flush t = false :=
  (by decide +kernel : ∀ t : Fin grid0.N, t.val < 7 → win0_5.flush t = false)

theorem leaves4_first (c : Dev nD) (t : Fin cfg0.N) (h : t.val < 7) :
    (dats m 0 c).leavesExact 4 t = iprop(∃ d, owns (c : Thread nD τ) (ms0_4 t) fullShare ((dats m 0 c).before 4 t d)) :=
  Dat.leavesExact_idle (dats m 0 c) 4 t ((idle4 t).trans (decide_eq_true h)) (noflush4 t h)

theorem leaves5_first (c : Dev nD) (t : Fin cfg0.N) (h : t.val < 7) :
    (dats m 0 c).leavesExact 5 t = iprop(∃ d, owns (c : Thread nD τ) (ms0_5 t) fullShare ((dats m 0 c).before 5 t d)) :=
  Dat.leavesExact_idle (dats m 0 c) 5 t ((idle5 t).trans (decide_eq_true h)) (noflush5 t h)

theorem leaves4_later (c : Dev nD) (t : Fin cfg0.N) (h : ¬t.val < 7) :
    (dats m 0 c).leavesExact 4 t = owns (c : Thread nD τ) (ms0_4 t) fullShare (outScale m c t) := by
  unfold Dat.leavesExact; rw [idle4 t, decide_eq_false h, after0_4]

theorem leaves5_later (c : Dev nD) (t : Fin cfg0.N) (h : ¬t.val < 7) :
    (dats m 0 c).leavesExact 5 t = owns (c : Thread nD τ) (ms0_5 t) fullShare (outCodes m c t) := by
  unfold Dat.leavesExact; rw [idle5 t, decide_eq_false h, after0_5]

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4000000 in
/-- The body at any point: by the run of its case, the invariant kept. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    show (dats m 0 c).Φ t.succ = PhiS m c (t.val + 1) from rfl, show (dats m 0 c).Φ t.castSucc = PhiS m c t.val from rfl,
    leaves0, leaves1, leaves2, leaves3]
  unfold PhiS
  have hN : t.val < 455 := lt_of_lt_of_eq t.isLt (show cfg0.N = 455 from N_0)
  by_cases h0 : t.val < 7
  · by_cases h1 : t.val % 7 = 0
    · rw [leaves4_first m c t h0, leaves5_first m c t h0]
      iintro ⟨⟨⟨%y, %am, %sc, %iv, %hi, HS0, HS1, HS2, HS3⟩, Hg⟩, Ho, ⟨%d0, H0⟩, ⟨%d1, H1⟩, ⟨%d2, H2⟩, ⟨%d3, H3⟩, ⟨%d4, H4⟩, ⟨%d5, H5⟩⟩
      iapply (runA c (grid0.coords t) _ _ _ _ _ _ _ _ _ _ _ _ _ _ _ _ _ _ _ _ ((hcond0_0 t).mpr (by omega)) ((hcond0_1 t).mpr (by omega)) (fun h => absurd ((hcond0_2 t).mp h) (by omega)) (fun h => absurd ((hcond0_3 t).mp h) (by omega)) (fun h => absurd ((hcond0_4 t).mp h) (by omega)) (fun h => absurd ((hcond0_5 t).mp h) (by omega)) (iblk m c 0 t) (iblk m c 1 t) (iblk m c 2 t) (iblk m c 3 t) _ _ y am sc iv Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      iintro ⟨H0, H1, H2, H3, H4, H5, HS0, HS1, HS2, HS3⟩
      isplitl [HS0 HS1 HS2 HS3 Hg]
      · isplitl [HS0 HS1 HS2 HS3]
        · iexists _, _, _, _
          isplitr
          swap
          · isplitl [HS0]; · iexact HS0
            isplitl [HS1]; · iexact HS1
            isplitl [HS2]; · iexact HS2
            iexact HS3
          ipureintro; exact hi.step m (by omega) (by omega) (rm_first m c t (by omega)).symm
        iexact Hg
      isplitl [Ho]; · iexact Ho
      isplitl [H0]; · iexact H0
      isplitl [H1]; · iexact H1
      isplitl [H2]; · iexact H2
      isplitl [H3]; · iexact H3
      isplitl [H4]; · iexists d4; iexact H4
      iexists d5; iexact H5
    by_cases h6 : t.val % 7 = 6
    · rw [leaves4_first m c t h0, leaves5_first m c t h0]
      iintro ⟨⟨⟨%y, %am, %sc, %iv, %hi, HS0, HS1, HS2, HS3⟩, Hg⟩, Ho, ⟨%d0, H0⟩, ⟨%d1, H1⟩, ⟨%d2, H2⟩, ⟨%d3, H3⟩, ⟨%d4, H4⟩, ⟨%d5, H5⟩⟩
      iapply (runC c (grid0.coords t) _ _ _ _ _ _ _ _ _ _ _ _ _ _ _ _ _ _ _ _ ((hcond0_0 t).mpr (by omega)) (fun h => absurd ((hcond0_1 t).mp h) (by omega)) ((hcond0_2 t).mpr (by omega)) (fun h => absurd ((hcond0_3 t).mp h) (by omega)) (fun h => absurd ((hcond0_4 t).mp h) (by omega)) ((hcond0_5 t).mpr (by omega)) (iblk m c 0 t) (iblk m c 1 t) (iblk m c 2 t) (iblk m c 3 t) _ _ y am sc iv Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      iintro ⟨H0, H1, H2, H3, H4, H5, HS0, HS1, HS2, HS3⟩
      isplitl [HS0 HS1 HS2 HS3 Hg]
      · isplitl [HS0 HS1 HS2 HS3]
        · iexists _, _, _, _
          isplitr
          swap
          · isplitl [HS0]; · iexact HS0
            isplitl [HS1]; · iexact HS1
            isplitl [HS2]; · iexact HS2
            iexact HS3
          ipureintro; exact hi.stepLast m (by omega) (by omega) (hi.addM_eq m (by omega) (by omega))
        iexact Hg
      isplitl [Ho]; · iexact Ho
      isplitl [H0]; · iexact H0
      isplitl [H1]; · iexact H1
      isplitl [H2]; · iexact H2
      isplitl [H3]; · iexact H3
      isplitl [H4]; · iexists d4; iexact H4
      iexists d5; iexact H5
    rw [leaves4_first m c t h0, leaves5_first m c t h0]
    iintro ⟨⟨⟨%y, %am, %sc, %iv, %hi, HS0, HS1, HS2, HS3⟩, Hg⟩, Ho, ⟨%d0, H0⟩, ⟨%d1, H1⟩, ⟨%d2, H2⟩, ⟨%d3, H3⟩, ⟨%d4, H4⟩, ⟨%d5, H5⟩⟩
    iapply (runB c (grid0.coords t) _ _ _ _ _ _ _ _ _ _ _ _ _ _ _ _ _ _ _ _ ((hcond0_0 t).mpr (by omega)) (fun h => absurd ((hcond0_1 t).mp h) (by omega)) ((hcond0_2 t).mpr (by omega)) (fun h => absurd ((hcond0_3 t).mp h) (by omega)) (fun h => absurd ((hcond0_4 t).mp h) (by omega)) (fun h => absurd ((hcond0_5 t).mp h) (by omega)) (iblk m c 0 t) (iblk m c 1 t) (iblk m c 2 t) (iblk m c 3 t) _ _ y am sc iv Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    isplitl [HS3]; · iexact HS3
    iintro ⟨H0, H1, H2, H3, H4, H5, HS0, HS1, HS2, HS3⟩
    isplitl [HS0 HS1 HS2 HS3 Hg]
    · isplitl [HS0 HS1 HS2 HS3]
      · iexists _, _, _, _
        isplitr
        swap
        · isplitl [HS0]; · iexact HS0
          isplitl [HS1]; · iexact HS1
          isplitl [HS2]; · iexact HS2
          iexact HS3
        ipureintro; exact hi.step m (by omega) (by omega) (hi.addM_eq m (by omega) (by omega))
      iexact Hg
    isplitl [Ho]; · iexact Ho
    isplitl [H0]; · iexact H0
    isplitl [H1]; · iexact H1
    isplitl [H2]; · iexact H2
    isplitl [H3]; · iexact H3
    isplitl [H4]; · iexists d4; iexact H4
    iexists d5; iexact H5
  by_cases h4 : 448 ≤ t.val
  · rw [leaves4_later m c t h0, leaves5_later m c t h0]
    iintro ⟨⟨⟨%y, %am, %sc, %iv, %hi, HS0, HS1, HS2, HS3⟩, Hg⟩, Ho, ⟨%d0, H0⟩, ⟨%d1, H1⟩, ⟨%d2, H2⟩, ⟨%d3, H3⟩, ⟨%d4, H4⟩, ⟨%d5, H5⟩⟩
    iapply (runG c (grid0.coords t) _ _ _ _ _ _ _ _ _ _ _ _ _ _ _ _ _ _ _ _ (fun h => absurd ((hcond0_0 t).mp h) (by omega)) (fun h => absurd ((hcond0_3 t).mp h) (by omega)) ((hcond0_4 t).mpr (by omega)) (fun h => absurd ((hcond0_5 t).mp h) (by omega)) (iblk m c 0 t) (iblk m c 1 t) (iblk m c 2 t) (iblk m c 3 t) _ _ y am sc iv Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    isplitl [HS3]; · iexact HS3
    iintro ⟨H0, H1, H2, H3, H4, H5, HS0, HS1, HS2, HS3⟩
    isplitl [HS0 HS1 HS2 HS3 Hg]
    · isplitl [HS0 HS1 HS2 HS3]
      · iexists _, _, _, _
        isplitr
        swap
        · isplitl [HS0]; · iexact HS0
          isplitl [HS1]; · iexact HS1
          isplitl [HS2]; · iexact HS2
          iexact HS3
        ipureintro; exact hi.stepEnd m (by omega) hN
      iexact Hg
    isplitl [Ho]; · iexact Ho
    isplitl [H0]; · iexact H0
    isplitl [H1]; · iexact H1
    isplitl [H2]; · iexact H2
    isplitl [H3]; · iexact H3
    isplitl [H4]
    · rw [← hi.outScale m (by omega) hN]; iexact H4
    rw [← hi.outCodes m (by omega) hN]; iexact H5
  by_cases h1 : t.val % 7 = 0
  · rw [leaves4_later m c t h0, leaves5_later m c t h0]
    iintro ⟨⟨⟨%y, %am, %sc, %iv, %hi, HS0, HS1, HS2, HS3⟩, Hg⟩, Ho, ⟨%d0, H0⟩, ⟨%d1, H1⟩, ⟨%d2, H2⟩, ⟨%d3, H3⟩, ⟨%d4, H4⟩, ⟨%d5, H5⟩⟩
    iapply (runD c (grid0.coords t) _ _ _ _ _ _ _ _ _ _ _ _ _ _ _ _ _ _ _ _ (fun h => absurd ((hcond0_0 t).mp h) (by omega)) ((hcond0_3 t).mpr (by omega)) (fun h => absurd ((hcond0_4 t).mp h) (by omega)) (fun h => absurd ((hcond0_5 t).mp h) (by omega)) ((hcond0_6 t).mpr (by omega)) (fun h => absurd ((hcond0_7 t).mp h) (by omega)) (iblk m c 0 t) (iblk m c 1 t) (iblk m c 2 t) (iblk m c 3 t) _ _ y am sc iv Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    isplitl [HS3]; · iexact HS3
    iintro ⟨H0, H1, H2, H3, H4, H5, HS0, HS1, HS2, HS3⟩
    isplitl [HS0 HS1 HS2 HS3 Hg]
    · isplitl [HS0 HS1 HS2 HS3]
      · iexists _, _, _, _
        isplitr
        swap
        · isplitl [HS0]; · iexact HS0
          isplitl [HS1]; · iexact HS1
          isplitl [HS2]; · iexact HS2
          iexact HS3
        ipureintro; exact hi.step m (by omega) (by omega) (rm_first m c t (by omega)).symm
      iexact Hg
    isplitl [Ho]; · iexact Ho
    isplitl [H0]; · iexact H0
    isplitl [H1]; · iexact H1
    isplitl [H2]; · iexact H2
    isplitl [H3]; · iexact H3
    isplitl [H4]
    · rw [← hi.outScale m (by omega) hN]; iexact H4
    rw [← hi.outCodes m (by omega) hN]; iexact H5
  by_cases h6 : t.val % 7 = 6
  · rw [leaves4_later m c t h0, leaves5_later m c t h0]
    iintro ⟨⟨⟨%y, %am, %sc, %iv, %hi, HS0, HS1, HS2, HS3⟩, Hg⟩, Ho, ⟨%d0, H0⟩, ⟨%d1, H1⟩, ⟨%d2, H2⟩, ⟨%d3, H3⟩, ⟨%d4, H4⟩, ⟨%d5, H5⟩⟩
    iapply (runF c (grid0.coords t) _ _ _ _ _ _ _ _ _ _ _ _ _ _ _ _ _ _ _ _ (fun h => absurd ((hcond0_0 t).mp h) (by omega)) ((hcond0_3 t).mpr (by omega)) (fun h => absurd ((hcond0_4 t).mp h) (by omega)) ((hcond0_5 t).mpr (by omega)) (fun h => absurd ((hcond0_6 t).mp h) (by omega)) ((hcond0_7 t).mpr (by omega)) (iblk m c 0 t) (iblk m c 1 t) (iblk m c 2 t) (iblk m c 3 t) _ _ y am sc iv Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    isplitl [HS3]; · iexact HS3
    iintro ⟨H0, H1, H2, H3, H4, H5, HS0, HS1, HS2, HS3⟩
    isplitl [HS0 HS1 HS2 HS3 Hg]
    · isplitl [HS0 HS1 HS2 HS3]
      · iexists _, _, _, _
        isplitr
        swap
        · isplitl [HS0]; · iexact HS0
          isplitl [HS1]; · iexact HS1
          isplitl [HS2]; · iexact HS2
          iexact HS3
        ipureintro; exact hi.stepLast m (by omega) (by omega) (hi.addM_eq m (by omega) (by omega))
      iexact Hg
    isplitl [Ho]; · iexact Ho
    isplitl [H0]; · iexact H0
    isplitl [H1]; · iexact H1
    isplitl [H2]; · iexact H2
    isplitl [H3]; · iexact H3
    isplitl [H4]
    · rw [← hi.outScale m (by omega) hN]; iexact H4
    rw [← hi.outCodes m (by omega) hN]; iexact H5
  rw [leaves4_later m c t h0, leaves5_later m c t h0]
  iintro ⟨⟨⟨%y, %am, %sc, %iv, %hi, HS0, HS1, HS2, HS3⟩, Hg⟩, Ho, ⟨%d0, H0⟩, ⟨%d1, H1⟩, ⟨%d2, H2⟩, ⟨%d3, H3⟩, ⟨%d4, H4⟩, ⟨%d5, H5⟩⟩
  iapply (runE c (grid0.coords t) _ _ _ _ _ _ _ _ _ _ _ _ _ _ _ _ _ _ _ _ (fun h => absurd ((hcond0_0 t).mp h) (by omega)) ((hcond0_3 t).mpr (by omega)) (fun h => absurd ((hcond0_4 t).mp h) (by omega)) (fun h => absurd ((hcond0_5 t).mp h) (by omega)) (fun h => absurd ((hcond0_6 t).mp h) (by omega)) ((hcond0_7 t).mpr (by omega)) (iblk m c 0 t) (iblk m c 1 t) (iblk m c 2 t) (iblk m c 3 t) _ _ y am sc iv Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  isplitl [HS3]; · iexact HS3
  iintro ⟨H0, H1, H2, H3, H4, H5, HS0, HS1, HS2, HS3⟩
  isplitl [HS0 HS1 HS2 HS3 Hg]
  · isplitl [HS0 HS1 HS2 HS3]
    · iexists _, _, _, _
      isplitr
      swap
      · isplitl [HS0]; · iexact HS0
        isplitl [HS1]; · iexact HS1
        isplitl [HS2]; · iexact HS2
        iexact HS3
      ipureintro; exact hi.step m (by omega) (by omega) (hi.addM_eq m (by omega) (by omega))
    iexact Hg
  isplitl [Ho]; · iexact Ho
  isplitl [H0]; · iexact H0
  isplitl [H1]; · iexact H1
  isplitl [H2]; · iexact H2
  isplitl [H3]; · iexact H3
  isplitl [H4]
  · rw [← hi.outScale m (by omega) hN]; iexact H4
  rw [← hi.outCodes m (by omega) hN]; iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## Entry and exit -/

/-- The launch's invariant gives the first point's. -/
theorem hin (c : Dev nD) : Pipeline.ΦA spec0 c ⊢ (dats m 0 c).Φ 0 := by
  rw [show (dats m 0 c).Φ 0 = PhiS m c 0 from rfl, PhiA0_eq]
  unfold PhiS
  iintro ⟨⟨⟨%y, HS0⟩, ⟨%am, HS1⟩, ⟨%sc, HS2⟩, ⟨%iv, HS3⟩⟩, Hg⟩
  isplitl [HS0 HS1 HS2 HS3]
  · iexists y, am, sc, iv
    isplitr
    swap
    · isplitl [HS0]; · iexact HS0
      isplitl [HS1]; · iexact HS1
      isplitl [HS2]; · iexact HS2
      iexact HS3
    ipureintro; exact Inv.zero m c y am sc iv
  iexact Hg

/-- The last point's invariant gives the launch's back. -/
theorem hout (c : Dev nD) : (dats m 0 c).Φ (Fin.last cfg0.N) ⊢ Pipeline.ΦA spec0 c := by
  rw [show (dats m 0 c).Φ (Fin.last cfg0.N) = PhiS m c cfg0.N from rfl, PhiA0_eq]
  unfold PhiS
  iintro ⟨⟨%y, %am, %sc, %iv, %hi, HS0, HS1, HS2, HS3⟩, Hg⟩
  isplitl [HS0 HS1 HS2 HS3]
  · isplitl [HS0]; · iexists y; iexact HS0
    isplitl [HS1]; · iexists am; iexact HS1
    isplitl [HS2]; · iexists sc; iexact HS2
    iexists iv; iexact HS3
  iexact Hg

/-! ## The run -/

-- the launch rule's implicit arguments are found by unifying its conclusion with this one, which takes unfolding plain definitions
-- in a metavariable's type
set_option backward.isDefEq.respectTransparency.types false in
set_option maxHeartbeats 800000 in
/-- Every run from any memory with zero counters terminates, with every array of the pipeline at what the write-backs leave, every
    other array as it was, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Gen

end
-- ==== Proof.KernelFrame.lean ====
/-  The kernel's frame. The kernel program and its ideal program are one text, so what `Cert.lean` proves of the ideal program, over any
    floats, holds of the kernel: the bodies, the body tables and the main functions are shown equal, and the frame is carried across. -/
module

public import proofs.«01_k».proof.Proof.Gen.Kernel
public import proofs.«01_k».proof.Proof.Cert

@[expose] public section

set_option maxRecDepth 16384

noncomputable section

namespace Cert.Kernel.Gen

open Idealize.ShloMosaic Idealize.ShloMosaic.TcCoe Idealize.SL.Sem

variable {F : FTy → Type} [FloatOps F]

/-- The two programs run one body. -/
theorem body_same : @Cert.Kernel.cc0_fp8_linear_requant F _ _ = @Cert.KernelIdeal.cc0_fp8_linear_requant F _ _ := rfl

/-- So their body tables are one table: the one label runs that body on the same buffers. -/
theorem defs₀_same : Cert.Kernel.defs₀ (F := F) = Cert.KernelIdeal.defs₀ (F := F) := by
  unfold Cert.Kernel.defs₀ Cert.KernelIdeal.defs₀
  refine congrArg Defs.onTc ?_
  funext l a
  match l, a with
  | 0, (t, s) => rw [body_same]; rfl
  | ⟨_ + 1, h⟩, _ => exact absurd h (Nat.not_lt.2 (Nat.le_add_left _ _))

/-- The body tables with the pipeline's own labels. -/
theorem defs_same : Cert.Kernel.defs (F := F) = Cert.KernelIdeal.defs (F := F) :=
  congrArg (Pipeline.defs (Cert.Kernel.pcfgs (F := F))) defs₀_same

/-- The two main functions are one. -/
theorem main_same : Cert.Kernel.main (F := F) = Cert.KernelIdeal.main (F := F) := rfl

/-- The argument arrays end unchanged and every semaphore counter at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  rw [defs_same, main_same]
  exact Cert.KernelIdeal.Gen.frame m ρ

end Cert.Kernel.Gen

end
-- ==== Proof.Scales.lean ====
/- The scale of a row over the extended reals: the exponent that the kernel finds by testing powers of two bit by bit is the one the
   reference takes from a logarithm, and the powers of two that either builds from it are the same. -/
module

public import Idealize.ShloMosaic.PureOps.Ideal.Laws

@[expose] public section

noncomputable section

namespace Cert.Scales

open Idealize.ShloMosaic

/-! ## The words as extended reals -/

/-- The power of two whose single-precision exponent field is `k`: zero at field 0, infinity at field 255. -/
def pw (k : ℕ) : EReal := if k = 0 then 0 else if k = 255 then ⊤ else (((2 : ℝ) ^ ((k : ℤ) - 127) : ℝ) : EReal)

theorem field_bits : ∀ k : Fin 256,
    ((IntOp.shli .vector (BitVec.ofNat 32 k.val) 23#32).extractLsb' 31 1 == 1#1) = false
      ∧ ((IntOp.shli .vector (BitVec.ofNat 32 k.val) 23#32).extractLsb' 23 8).toNat = k.val
      ∧ ((IntOp.shli .vector (BitVec.ofNat 32 k.val) 23#32).extractLsb' 0 23).toNat = 0 := by
  decide +kernel

theorem ofBits_of (b : BitVec 32) (k : ℕ) (h1 : (b.extractLsb' 31 1 == 1#1) = false) (h2 : (b.extractLsb' 23 8).toNat = k)
    (h3 : (b.extractLsb' 0 23).toNat = 0) : Ideal.ofBits .f32 b = pw k := by
  simp only [Ideal.ofBits, Ideal.ieee, h1, h2, h3, Nat.reduceAdd]
  unfold pw
  by_cases hz : k = 0
  · subst hz; norm_num
  by_cases ht : k = 255
  · subst ht; norm_num
  rw [if_neg (by norm_num; exact ht), if_neg hz, if_neg hz, if_neg ht]
  congr 1
  rw [show ((k : ℤ) - 127) = ((k : ℤ) - (2 ^ (8 - 1) - 1) - ((23 : ℕ) : ℤ)) + 23 by norm_num, zpow_add₀ (by norm_num)]
  norm_num
  ring

theorem ofBits_field (k : ℕ) (hk : k < 256) :
    FloatOps.ofBits (F := Ideal) .f32 (IntOp.shli .vector (BitVec.ofNat 32 k) 23#32) = pw k := by
  obtain ⟨h1, h2, h3⟩ := field_bits ⟨k, hk⟩
  exact ofBits_of _ k h1 h2 h3

theorem b_zero : FloatOps.ofBits (F := Ideal) .f32 0x00000000#32 = (0 : EReal) := by
  simp [Ideal.ofBits, Ideal.ieee]
theorem b_one : FloatOps.ofBits (F := Ideal) .f32 0x3F800000#32 = ((1 : ℝ) : EReal) := by
  simp [Ideal.ofBits, Ideal.ieee, -EReal.coe_mul]; try norm_num
theorem b_two : FloatOps.ofBits (F := Ideal) .f32 0x40000000#32 = ((2 : ℝ) : EReal) := by
  simp [Ideal.ofBits, Ideal.ieee, -EReal.coe_mul]; try norm_num
theorem b_128 : FloatOps.ofBits (F := Ideal) .f32 0x43000000#32 = ((128 : ℝ) : EReal) := by
  simp [Ideal.ofBits, Ideal.ieee, -EReal.coe_mul]; try norm_num
theorem b_127 : FloatOps.ofBits (F := Ideal) .f32 0x42FE0000#32 = ((127 : ℝ) : EReal) := by
  simp [Ideal.ofBits, Ideal.ieee, -EReal.coe_mul]; try norm_num
theorem b_m126 : FloatOps.ofBits (F := Ideal) .f32 0xC2FC0000#32 = ((-126 : ℝ) : EReal) := by
  simp [Ideal.ofBits, Ideal.ieee, -EReal.coe_mul]; try norm_num
theorem b_inf : FloatOps.ofBits (F := Ideal) .f32 0x7F800000#32 = (⊤ : EReal) := by
  simp [Ideal.ofBits, Ideal.ieee]
theorem b_minf : FloatOps.ofBits (F := Ideal) .f32 0xFF800000#32 = (⊥ : EReal) := by
  simp [Ideal.ofBits, Ideal.ieee]
theorem b_tiny : FloatOps.ofBits (F := Ideal) .f32 0x00800000#32 = pw 1 := ofBits_of _ 1 (by decide) (by decide) (by decide)

/-! ## The two sides, one row -/

/-- One test of the kernel's search for the exponent field of `v`: the field with the bit `s` set, if `v` is at least that power. -/
def probe (v : EReal) (f s : BitVec 32) : BitVec 32 :=
  Scalar.select (FloatOps.cmpf (F := Ideal) (φ := .f32) .oge v (FloatOps.ofBits .f32 (IntOp.shli .vector (IntOp.addi f s) 23#32)))
    (IntOp.addi f s) f

/-- The exponent field the kernel finds. -/
def field (v : EReal) : BitVec 32 :=
  probe v (probe v (probe v (probe v (probe v (probe v (probe v (probe v 0#32 128#32) 64#32) 32#32) 16#32) 8#32) 4#32) 2#32) 1#32

/-- The exponent of a row whose maximum is `a`, with `v` that maximum over 448, as the kernel computes it. -/
def kExpo (a v : EReal) : BitVec 32 :=
  Scalar.select (FloatOps.cmpf (F := Ideal) (φ := .f32) .oeq a (FloatOps.ofBits .f32 0x00000000#32)) 0#32
    (Scalar.select (IntOp.ori (IntOp.cmpi .eq (field v) 0#32) (IntOp.cmpi .eq (field v) 255#32)) 0#32 (IntOp.subi (field v) 126#32))

/-- The kernel's power of two from an exponent. -/
def kPow (e : BitVec 32) : EReal :=
  FloatOps.ofBits (F := Ideal) .f32 (IntOp.shli .vector (IntOp.minsi 255#32 (IntOp.maxsi 0#32 (IntOp.addi e 127#32))) 23#32)

/-- The exponent as the reference computes it. -/
def rExpo (a v : EReal) : EReal :=
  Scalar.select (FloatOps.cmpf (F := Ideal) (φ := .f32) .oeq a (FloatOps.ofBits .f32 0x00000000#32)) (FloatOps.ofBits (F := Ideal) .f32 0x00000000#32)
    (Scalar.select (IntOp.ori (FloatOps.cmpf (F := Ideal) (φ := .f32) .olt v (FloatOps.ofBits .f32 0x00800000#32))
        (FloatOps.cmpf (F := Ideal) (φ := .f32) .oeq v (FloatOps.ofBits .f32 0x7F800000#32)))
      (FloatOps.ofBits (F := Ideal) .f32 0x00000000#32)
      (FloatOps.minimumf (F := Ideal) (φ := .f32)
        (FloatOps.addf (F := Ideal) (φ := .f32) (FloatOps.floor (F := Ideal) (φ := .f32)
          (FloatOps.divf (F := Ideal) (φ := .f32) (FloatOps.log (F := Ideal) (φ := .f32) v)
            (FloatOps.log (F := Ideal) (φ := .f32) (FloatOps.ofBits .f32 0x40000000#32)))) (FloatOps.ofBits .f32 0x3F800000#32))
        (FloatOps.ofBits .f32 0x43000000#32)))

/-- The reference's power of two. -/
def rPow (n : EReal) : EReal :=
  Scalar.select (FloatOps.cmpf (F := Ideal) (φ := .f32) .olt n (FloatOps.ofBits .f32 0xC2FC0000#32)) (FloatOps.ofBits (F := Ideal) .f32 0x00000000#32)
    (Scalar.select (FloatOps.cmpf (F := Ideal) (φ := .f32) .ogt n (FloatOps.ofBits .f32 0x42FE0000#32)) (FloatOps.ofBits (F := Ideal) .f32 0x7F800000#32)
      (FloatOps.exp2 (F := Ideal) (φ := .f32) n))

/-! ## The powers -/

theorem sel_true {α : Type} {p : Prop} [Decidable p] (h : p) (a b : α) : Scalar.select (BitVec.ofBool (decide p)) a b = a := by
  rw [decide_eq_true h]; rfl

theorem sel_false {α : Type} {p : Prop} [Decidable p] (h : ¬p) (a b : α) : Scalar.select (BitVec.ofBool (decide p)) a b = b := by
  rw [decide_eq_false h]; rfl

theorem clip_field : ∀ k : Fin 254,
    IntOp.minsi 255#32 (IntOp.maxsi 0#32 (IntOp.addi (IntOp.subi (BitVec.ofNat 32 (k.val + 1)) 126#32) 127#32)) = BitVec.ofNat 32 (k.val + 2)
      ∧ IntOp.minsi 255#32 (IntOp.maxsi 0#32 (IntOp.addi (IntOp.subi 0#32 (IntOp.subi (BitVec.ofNat 32 (k.val + 1)) 126#32)) 127#32))
        = BitVec.ofNat 32 (252 - k.val) := by
  decide +kernel

/-- The reference's power at a whole number whose field fits. -/
theorem rPow_int (e : ℤ) (k : ℕ) (hk : k ≤ 255) (h : (k : ℤ) = max 0 (e + 127)) : rPow ((e : ℝ) : EReal) = pw k := by
  unfold rPow
  rw [b_zero, b_m126, b_127, b_inf]
  unfold pw
  by_cases h0 : k = 0
  · rw [if_pos h0]
    refine sel_true ?_ _ _
    rw [EReal.coe_lt_coe_iff]
    have : e < -126 := by omega
    exact_mod_cast this
  rw [if_neg h0]
  refine (sel_false ?_ _ _).trans ?_
  · rw [EReal.coe_lt_coe_iff]
    have : ¬e < -126 := by omega
    exact_mod_cast this
  by_cases h1 : k = 255
  · rw [if_pos h1]
    refine sel_true ?_ _ _
    rw [EReal.coe_lt_coe_iff]
    have : (127:ℤ) < e := by omega
    exact_mod_cast this
  rw [if_neg h1]
  refine (sel_false ?_ _ _).trans ?_
  · rw [EReal.coe_lt_coe_iff]
    have : ¬127 < e := by omega
    exact_mod_cast this
  show Ideal.exp2 _ = _
  rw [Ideal.exp2_coe]
  congr 1
  rw [show (k : ℤ) - 127 = e by omega]
  exact Real.rpow_intCast 2 e

/-- Both sides' powers, and both sides' inverse powers, agree at equal exponents. -/
theorem pow_agree (k : ℕ) (h1 : 1 ≤ k) (h2 : k ≤ 254) :
    kPow (IntOp.subi (BitVec.ofNat 32 k) 126#32) = rPow ((((k : ℤ) - 126 : ℤ) : ℝ) : EReal)
      ∧ kPow (IntOp.subi 0#32 (IntOp.subi (BitVec.ofNat 32 k) 126#32)) = rPow (0 - ((((k : ℤ) - 126 : ℤ) : ℝ) : EReal)) := by
  obtain ⟨c1, c2⟩ := clip_field ⟨k - 1, by omega⟩
  simp only [show k - 1 + 1 = k by omega] at c1 c2
  constructor
  · unfold kPow
    rw [c1, ofBits_field _ (by omega), rPow_int _ (k - 1 + 2) (by omega) (by omega)]
  · rw [show (0 : EReal) - ((((k : ℤ) - 126 : ℤ) : ℝ) : EReal) = (((126 - (k : ℤ) : ℤ) : ℝ) : EReal) by
      rw [← EReal.coe_zero, ← EReal.coe_sub]; congr 1; push_cast; ring]
    unfold kPow
    rw [c2, ofBits_field _ (by omega), rPow_int _ (252 - (k - 1)) (by omega) (by omega)]

/-! ## The search -/

theorem pw_mono {j k : ℕ} (h : j ≤ k) (hk : k ≤ 255) : pw j ≤ pw k := by
  unfold pw
  by_cases hj : j = 0
  · rw [if_pos hj]
    by_cases hk0 : k = 0
    · rw [if_pos hk0]
    rw [if_neg hk0]
    by_cases h255 : k = 255
    · rw [if_pos h255]; exact le_top
    rw [if_neg h255]
    exact_mod_cast (zpow_pos (by norm_num : (0 : ℝ) < 2) _).le
  rw [if_neg hj, if_neg (show ¬k = 0 by omega)]
  by_cases h255 : k = 255
  · rw [if_pos h255]; exact le_top
  rw [if_neg h255, if_neg (show ¬j = 255 by omega), EReal.coe_le_coe_iff]
  exact zpow_le_zpow_right₀ (by norm_num) (by omega)

/-- The search has the field in a range of `w` values from `n`. -/
structure Found (v : EReal) (f : BitVec 32) (n w : ℕ) : Prop where
  eq : f = BitVec.ofNat 32 n
  fits : n + w ≤ 256
  low : n = 0 ∨ pw n ≤ v
  high : ∀ g, n + w ≤ g → g ≤ 255 → ¬pw g ≤ v

theorem Found.step {v : EReal} {f : BitVec 32} {n w : ℕ} (h : Found v f n (w + w)) (hw : 0 < w) :
    ∃ n', Found v (probe v f (BitVec.ofNat 32 w)) n' w := by
  have hf := h.fits
  have e : IntOp.addi f (BitVec.ofNat 32 w) = BitVec.ofNat 32 (n + w) := by
    rw [h.eq]; exact BitVec.ofNat_add_ofNat n w
  unfold probe
  rw [e, ofBits_field _ (by omega)]
  by_cases hp : pw (n + w) ≤ v
  · exact ⟨n + w, sel_true hp _ _, by omega, Or.inr hp, fun g h1 h2 => h.high g (by omega) h2⟩
  · exact ⟨n, (sel_false hp _ _).trans h.eq, by omega, h.low, fun g h1 h2 h3 => hp ((pw_mono h1 h2).trans h3)⟩

/-- What the search ends with: the greatest field whose power is at most `v`, zero if there is none. -/
theorem field_found (v : EReal) : ∃ n, Found v (field v) n 1 := by
  have h0 : Found v 0#32 0 256 := ⟨rfl, le_rfl, Or.inl rfl, fun g h1 h2 => by omega⟩
  obtain ⟨n1, h1⟩ := Found.step (w := 128) h0 (by norm_num)
  obtain ⟨n2, h2⟩ := Found.step (w := 64) h1 (by norm_num)
  obtain ⟨n3, h3⟩ := Found.step (w := 32) h2 (by norm_num)
  obtain ⟨n4, h4⟩ := Found.step (w := 16) h3 (by norm_num)
  obtain ⟨n5, h5⟩ := Found.step (w := 8) h4 (by norm_num)
  obtain ⟨n6, h6⟩ := Found.step (w := 4) h5 (by norm_num)
  obtain ⟨n7, h7⟩ := Found.step (w := 2) h6 (by norm_num)
  exact Found.step (w := 1) h7 (by norm_num)

/-! ## The exponents agree -/

/-- A power whose field is in range is at most a positive real exactly when its exponent is at most that real's logarithm. -/
theorem pw_le_iff (g : ℕ) (h1 : 1 ≤ g) (h2 : g ≤ 254) (x : ℝ) (hx : 0 < x) :
    pw g ≤ (x : EReal) ↔ (g : ℤ) - 127 ≤ ⌊Real.log x / Real.log 2⌋ := by
  unfold pw
  rw [if_neg (by omega), if_neg (by omega), EReal.coe_le_coe_iff, Int.le_floor, le_div_iff₀ (Real.log_pos (by norm_num)),
    ← Real.log_zpow, Real.log_le_log_iff (zpow_pos (by norm_num) _) hx]

theorem eqw (n c : ℕ) (hn : n < 2 ^ 32) (hc : c < 2 ^ 32) :
    IntOp.cmpi .eq (BitVec.ofNat 32 n) (BitVec.ofNat 32 c) = BitVec.ofBool (decide (n = c)) := by
  unfold IntOp.cmpi
  congr 1
  by_cases h : n = c
  · subst h; simp
  · rw [decide_eq_false h]
    refine beq_eq_false_iff_ne.mpr fun h' => h ?_
    have := congrArg BitVec.toNat h'
    rwa [BitVec.toNat_ofNat, BitVec.toNat_ofNat, Nat.mod_eq_of_lt hn, Nat.mod_eq_of_lt hc] at this

theorem or_bool (p q : Bool) : IntOp.ori (BitVec.ofBool p) (BitVec.ofBool q) = BitVec.ofBool (p || q) := by
  cases p <;> cases q <;> rfl

/-- The two exponents are one whole number, `k - 126` for a `k` from 1 to 254. -/
theorem expo_agree (a v : EReal) : ∃ k : ℕ, 1 ≤ k ∧ k ≤ 254 ∧ kExpo a v = IntOp.subi (BitVec.ofNat 32 k) 126#32
    ∧ rExpo a v = ((((k : ℤ) - 126 : ℤ) : ℝ) : EReal) := by
  have hz : (((((126 : ℕ) : ℤ) - 126 : ℤ) : ℝ) : EReal) = 0 := by norm_num
  have hzw : IntOp.subi (BitVec.ofNat 32 126) 126#32 = 0#32 := by decide
  unfold kExpo rExpo
  by_cases ha : a = 0
  · refine ⟨126, by norm_num, by norm_num, ?_, ?_⟩
    · rw [hzw, b_zero]; exact sel_true ha _ _
    · rw [hz, b_zero]; exact sel_true ha _ _
  obtain ⟨n, hn⟩ := field_found v
  have hfit := hn.fits
  have e1 : IntOp.ori (IntOp.cmpi .eq (field v) 0#32) (IntOp.cmpi .eq (field v) 255#32)
      = BitVec.ofBool (decide (n = 0 ∨ n = 255)) := by
    rw [hn.eq, show (0#32 : BitVec 32) = BitVec.ofNat 32 0 from rfl, show (255#32 : BitVec 32) = BitVec.ofNat 32 255 from rfl,
      eqw n 0 (by omega) (by omega), eqw n 255 (by omega) (by omega), or_bool, Bool.decide_or]
  have e2 : IntOp.ori (FloatOps.cmpf (F := Ideal) (φ := .f32) .olt v (FloatOps.ofBits .f32 0x00800000#32))
        (FloatOps.cmpf (F := Ideal) (φ := .f32) .oeq v (FloatOps.ofBits .f32 0x7F800000#32))
      = BitVec.ofBool (decide (v < pw 1 ∨ v = ⊤)) := by
    rw [b_tiny, b_inf, Bool.decide_or, ← or_bool]
    rfl
  rw [e1, e2]
  have hl : ∀ {α : Type} (x y : α), Scalar.select (FloatOps.cmpf (F := Ideal) (φ := .f32) .oeq a (FloatOps.ofBits .f32 0x00000000#32)) x y = y := by
    intro α x y; rw [b_zero]; exact sel_false ha x y
  rw [hl, hl]
  by_cases hlow : v < pw 1
  · have h0 : n = 0 := by
      rcases hn.low with h | h
      · exact h
      · by_contra hne
        exact absurd (lt_of_le_of_lt ((pw_mono (show 1 ≤ n by omega) (by omega)).trans h) hlow) (lt_irrefl _)
    refine ⟨126, by norm_num, by norm_num, ?_, ?_⟩
    · rw [hzw]; exact sel_true (Or.inl h0) _ _
    · rw [hz, b_zero]; exact sel_true (Or.inl hlow) _ _
  by_cases htop : v = ⊤
  · have h0 : n = 255 := by
      by_contra hne
      exact hn.high 255 (by omega) le_rfl (htop ▸ le_top)
    refine ⟨126, by norm_num, by norm_num, ?_, ?_⟩
    · rw [hzw]; exact sel_true (Or.inr h0) _ _
    · rw [hz, b_zero]; exact sel_true (Or.inr htop) _ _
  have hlow' : pw 1 ≤ v := not_lt.mp hlow
  have hbot : v ≠ ⊥ := by
    rintro rfl
    have : pw 1 = ⊥ := le_bot_iff.mp hlow'
    unfold pw at this
    rw [if_neg (by norm_num), if_neg (by norm_num)] at this
    exact EReal.coe_ne_bot _ this
  lift v to ℝ using ⟨htop, hbot⟩
  have hx : 0 < v := by
    have : pw 1 ≤ (v : EReal) := hlow'
    unfold pw at this
    rw [if_neg (by norm_num), if_neg (by norm_num), EReal.coe_le_coe_iff] at this
    exact lt_of_lt_of_le (zpow_pos (by norm_num) _) this
  have hn0 : n ≠ 0 := fun h0 => hn.high 1 (by omega) (by norm_num) hlow'
  have hn255 : n ≠ 255 := by
    intro h
    rcases hn.low with h' | h'
    · omega
    · unfold pw at h'
      rw [if_neg hn0, if_pos h] at h'
      exact htop (top_le_iff.mp h')
  have hle : (n : ℤ) - 127 ≤ ⌊Real.log v / Real.log 2⌋ :=
    (pw_le_iff n (by omega) (by omega) v hx).mp (hn.low.resolve_left hn0)
  have hge : n = 254 ∨ ⌊Real.log v / Real.log 2⌋ = (n : ℤ) - 127 := by
    by_cases h254 : n = 254
    · exact Or.inl h254
    · refine Or.inr (le_antisymm ?_ hle)
      have := mt (pw_le_iff (n + 1) (by omega) (by omega) v hx).mpr (hn.high (n + 1) le_rfl (by omega))
      push_cast at this
      omega
  refine ⟨n, by omega, by omega, ?_, ?_⟩
  · rw [hn.eq]; exact sel_false (fun h => h.elim hn0 hn255) _ _
  · refine (sel_false (fun h => h.elim hlow htop) _ _).trans ?_
    rw [b_two, b_one, b_128]
    show min (Ideal.liftRound Int.floor (Ideal.div (Ideal.log (v : EReal)) (Ideal.log ((2 : ℝ) : EReal))) + ((1 : ℝ) : EReal)) ((128 : ℝ) : EReal) = _
    have hl2 : Real.log 2 ≠ 0 := (Real.log_pos (by norm_num)).ne'
    rw [Ideal.log_coe, if_neg (not_le.mpr hx), Ideal.log_coe, if_neg (by norm_num)]
    unfold Ideal.div
    rw [if_neg (by exact_mod_cast hl2), ← EReal.coe_inv, ← EReal.coe_mul, ← div_eq_mul_inv, Ideal.liftRound_coe, ← EReal.coe_add,
      ← EReal.coe_strictMono.monotone.map_min]
    congr 1
    have : min (⌊Real.log v / Real.log 2⌋ + 1) 128 = (n : ℤ) - 126 := by omega
    exact_mod_cast this

/-- The scale the kernel computes is the reference's, and so is the inverse scale. -/
theorem scale_agree (a v : EReal) :
    kPow (kExpo a v) = rPow (rExpo a v)
      ∧ kPow (IntOp.subi 0#32 (kExpo a v)) = rPow (FloatOps.subf (F := Ideal) (φ := .f32) (FloatOps.ofBits .f32 0x00000000#32) (rExpo a v)) := by
  obtain ⟨k, h1, h2, h3, h4⟩ := expo_agree a v
  rw [h3, h4, b_zero]
  exact pow_agree k h1 h2

end Cert.Scales

end
-- ==== Proof.Spec.lean ====
/- What both programs compute, entry by entry over the extended reals: the scaled product, the greatest magnitude of each of its rows,
   the power-of-two scale of the row, and the codes. -/
module

public import proofs.«01_k».proof.Proof.Scales
public import Idealize.ShloMosaic.Lib.ValueIdxCore

@[expose] public section

noncomputable section

namespace Cert.Spec

open Idealize.ShloMosaic Idealize.ShloMosaic.ValueIdx
open Cert.Scales

variable {M K N : ℕ}

/-- Entry `(r, q)` of the product, times its row's scale, times its column's scale. -/
def yAt (X : FVec Ideal ⟨2, ![M, K]⟩ .fp8e4m3) (s : FVec Ideal ⟨2, ![M, 1]⟩ .f32) (W : FVec Ideal ⟨2, ![K, N]⟩ .fp8e4m3)
    (u : FVec Ideal ⟨2, ![1, N]⟩ .f32) (r : Fin M) (q : Fin N) : EReal :=
  ((∑ k : Fin K, X (ix2 r k) * W (ix2 k q)) * s (ix2 r (0 : Fin 1))) * u (ix2 (0 : Fin 1) q)

/-- The entry reads one row, one column and their two scales. -/
theorem yAt_congr {M' N' : ℕ} {X : FVec Ideal ⟨2, ![M, K]⟩ .fp8e4m3} {s : FVec Ideal ⟨2, ![M, 1]⟩ .f32}
    {W : FVec Ideal ⟨2, ![K, N]⟩ .fp8e4m3} {u : FVec Ideal ⟨2, ![1, N]⟩ .f32}
    {X' : FVec Ideal ⟨2, ![M', K]⟩ .fp8e4m3} {s' : FVec Ideal ⟨2, ![M', 1]⟩ .f32}
    {W' : FVec Ideal ⟨2, ![K, N']⟩ .fp8e4m3} {u' : FVec Ideal ⟨2, ![1, N']⟩ .f32} {r : Fin M} {q : Fin N} {r' : Fin M'} {q' : Fin N'}
    (hX : ∀ k, X (ix2 r k) = X' (ix2 r' k)) (hs : s (ix2 r (0 : Fin 1)) = s' (ix2 r' (0 : Fin 1)))
    (hW : ∀ k, W (ix2 k q) = W' (ix2 k q')) (hu : u (ix2 (0 : Fin 1) q) = u' (ix2 (0 : Fin 1) q')) :
    yAt X s W u r q = yAt X' s' W' u' r' q' := by
  unfold yAt
  rw [hs, hu, Finset.sum_congr rfl fun k _ => by rw [hX k, hW k]]

/-- The magnitude of an extended real. -/
def mag (x : EReal) : EReal := max x (-x)

variable (X : FVec Ideal ⟨2, ![M, K]⟩ .fp8e4m3) (s : FVec Ideal ⟨2, ![M, 1]⟩ .f32) (W : FVec Ideal ⟨2, ![K, N]⟩ .fp8e4m3)
  (u : FVec Ideal ⟨2, ![1, N]⟩ .f32)

/-- The greatest magnitude in row `r`. -/
def rowMax (r : Fin M) : EReal := Finset.univ.sup fun q => mag (yAt X s W u r q)

theorem rowMax_le (r : Fin M) (B : EReal) : rowMax X s W u r ≤ B ↔ ∀ q, mag (yAt X s W u r q) ≤ B := by
  unfold rowMax
  rw [Finset.sup_le_iff]
  exact ⟨fun h q => h q (Finset.mem_univ q), fun h q _ => h q⟩

/-- That maximum over 448. -/
def over (a : EReal) : EReal := a * FloatOps.ofBits (F := Ideal) .f32 0x3B124925#32

/-- The scale of row `r`. -/
def scaleAt (r : Fin M) : EReal := rPow (rExpo (rowMax X s W u r) (over (rowMax X s W u r)))

/-- The inverse scale of row `r`. -/
def invAt (r : Fin M) : EReal :=
  rPow (FloatOps.subf (F := Ideal) (φ := .f32) (FloatOps.ofBits .f32 0x00000000#32) (rExpo (rowMax X s W u r) (over (rowMax X s W u r))))

/-- A value at an inverse scale, clipped to the largest code. -/
def code (y p : EReal) : EReal :=
  min (FloatOps.ofBits (F := Ideal) .f32 0x43E00000#32) (max (FloatOps.ofBits (F := Ideal) .f32 0xC3E00000#32) (y * p))

/-- The code of entry `(r, q)`. -/
def codeAt (r : Fin M) (q : Fin N) : EReal := code (yAt X s W u r q) (invAt X s W u r)

/-- All scales. -/
def scales : FVec Ideal ⟨2, ![M, 1]⟩ .f32 := fun i => scaleAt X s W u (i 0)

/-- All codes. -/
def codes : FVec Ideal ⟨2, ![M, N]⟩ .fp8e4m3 := fun i => codeAt X s W u (i 0) (i 1)

end Cert.Spec

end
-- ==== Proof.TileValue.lean ====
/- The kernel's payloads over the extended reals, entry by entry: a tile of `y`, its lane maxima, the scale, the inverse scale and the
   codes. -/
module

public import proofs.«01_k».proof.Proof.State
public import proofs.«01_k».proof.Proof.Spec
public import Idealize.ShloMosaic.Lib.MatmulPlain
public import Idealize.ShloMosaic.Lib.Pipeline.Value

@[expose] public section

set_option maxRecDepth 16384

noncomputable section

namespace Cert.KernelIdeal.Gen

open Idealize.ShloMosaic Idealize.ShloMosaic.TcCoe
open Idealize.ShloMosaic.ValueIdx
open Cert.Scales Cert.Spec

/-! ## The tile of `y` -/

theorem chunkY_apply (x0 : Vec Ideal S512x3584 .fp8e4m3) (x1 : Vec Ideal S512x1 .f32) (x2 : Vec Ideal S3584x2048 .fp8e4m3)
    (x3 : Vec Ideal S1x2048 .f32) (q : Fin 4) (r l : Fin 512) :
    chunkY x0 x1 x2 x3 q (ix2 r l) = yAt (M := 512) (K := 3584) (N := 2048) x0 x1 x2 x3 r ⟨512 * q.val + l.val, by omega⟩ := by
  unfold chunkY k0_pay13 k0_pay12
  rw [shapeCast_self, shapeCast_self]
  have e : FloatOps.matmul (F := Ideal) (φ₁ := .fp8e4m3) (φ₂ := .fp8e4m3) dot_S512x3584_S3584x512_S512x512_1_0_0_1_n_n none x0 (colsW q x2)
      (constant S512x512 .f32 0x00000000#32) (ix2 r l) = ∑ k : Fin 3584, x0 (ix2 r k) * x2 (ix2 k ⟨512 * q.val + l.val, by omega⟩) := by
    refine (Ideal.matmul_plain_apply (M := 512) (K := 3584) (N := 512) none x0 (colsW q x2) _ r l).trans ?_
    rw [show constant (F := Ideal) S512x512 .f32 0x00000000#32 (ix2 r l) = (0 : EReal) from b_zero, zero_add]
    rfl
  have e1 : broadcastTo S512x512 x1 broadcasts_S512x1_S512x512 (ix2 r l) = x1 (ix2 r (0 : Fin 1)) :=
    congrArg x1 (funext fun a => by match a with | ⟨0, _⟩ => rfl | ⟨1, _⟩ => rfl)
  have e3 : broadcastTo S512x512 (colsS q x3) broadcasts_S1x512_S512x512 (ix2 r l) = x3 (ix2 (0 : Fin 1) ⟨512 * q.val + l.val, by omega⟩) :=
    congrArg x3 (funext fun a => by match a with | ⟨0, _⟩ => rfl | ⟨1, _⟩ => rfl)
  show (FloatOps.matmul (F := Ideal) (φ₁ := .fp8e4m3) (φ₂ := .fp8e4m3) dot_S512x3584_S3584x512_S512x512_1_0_0_1_n_n none x0 (colsW q x2)
      (constant S512x512 .f32 0x00000000#32) (ix2 r l) * broadcastTo S512x512 x1 broadcasts_S512x1_S512x512 (ix2 r l))
      * broadcastTo S512x512 (colsS q x3) broadcasts_S1x512_S512x512 (ix2 r l) = _
  rw [e, e1, e3]
  rfl

theorem tileY_apply (x0 : Vec Ideal S512x3584 .fp8e4m3) (x1 : Vec Ideal S512x1 .f32) (x2 : Vec Ideal S3584x2048 .fp8e4m3)
    (x3 : Vec Ideal S1x2048 .f32) (r : Fin 512) (q : Fin 2048) :
    tileY x0 x1 x2 x3 (ix2 r q) = yAt (M := 512) (K := 3584) (N := 2048) x0 x1 x2 x3 r q := by
  refine (chunkY_apply x0 x1 x2 x3 ⟨q.val / 512, by omega⟩ r ⟨q.val % 512, Nat.mod_lt _ (by norm_num)⟩).trans ?_
  congr 1
  apply Fin.ext
  show 512 * (q.val / 512) + q.val % 512 = q.val
  omega

/-! ## Maxima -/

theorem laneMax_le (y : FVec Ideal S512x512 .f32) (r : Fin 512) (l : Fin 128) (B : EReal) :
    laneMax y (ix2 r l) ≤ B ↔ ∀ g : Fin 4, mag (y (ix2 r ⟨128 * g.val + l.val, by omega⟩)) ≤ B := by
  have s0 : extractStridedSlice S512x128 ![0, 0] (absf y) slices_S512x512_o0_0_S512x128 (ix2 r l)
      = mag (y (ix2 r ⟨128 * (0 : Fin 4).val + l.val, by simp; omega⟩)) :=
    congrArg (fun i => mag (y i)) (funext fun a => Fin.ext (by
      match a with
      | ⟨0, _⟩ => show 0 + r.val = r.val; omega
      | ⟨1, _⟩ => show 0 + l.val = 128 * 0 + l.val; omega))
  have s1 : extractStridedSlice S512x128 ![0, 128] (absf y) slices_S512x512_o0_128_S512x128 (ix2 r l)
      = mag (y (ix2 r ⟨128 * (1 : Fin 4).val + l.val, by simp; omega⟩)) :=
    congrArg (fun i => mag (y i)) (funext fun a => Fin.ext (by
      match a with
      | ⟨0, _⟩ => show 0 + r.val = r.val; omega
      | ⟨1, _⟩ => show 128 + l.val = 128 * 1 + l.val; omega))
  have s2 : extractStridedSlice S512x128 ![0, 256] (absf y) slices_S512x512_o0_256_S512x128 (ix2 r l)
      = mag (y (ix2 r ⟨128 * (2 : Fin 4).val + l.val, by simp; omega⟩)) :=
    congrArg (fun i => mag (y i)) (funext fun a => Fin.ext (by
      match a with
      | ⟨0, _⟩ => show 0 + r.val = r.val; omega
      | ⟨1, _⟩ => show 256 + l.val = 128 * 2 + l.val; omega))
  have s3 : extractStridedSlice S512x128 ![0, 384] (absf y) slices_S512x512_o0_384_S512x128 (ix2 r l)
      = mag (y (ix2 r ⟨128 * (3 : Fin 4).val + l.val, by simp; omega⟩)) :=
    congrArg (fun i => mag (y i)) (funext fun a => Fin.ext (by
      match a with
      | ⟨0, _⟩ => show 0 + r.val = r.val; omega
      | ⟨1, _⟩ => show 384 + l.val = 128 * 3 + l.val; omega))
  unfold laneMax
  show max (max (max (extractStridedSlice S512x128 ![0, 0] (absf y) slices_S512x512_o0_0_S512x128 (ix2 r l))
    (extractStridedSlice S512x128 ![0, 128] (absf y) slices_S512x512_o0_128_S512x128 (ix2 r l)))
    (extractStridedSlice S512x128 ![0, 256] (absf y) slices_S512x512_o0_256_S512x128 (ix2 r l)))
    (extractStridedSlice S512x128 ![0, 384] (absf y) slices_S512x512_o0_384_S512x128 (ix2 r l)) ≤ B ↔ _
  rw [s0, s1, s2, s3]
  simp only [max_le_iff]
  constructor
  · rintro ⟨⟨⟨h0, h1⟩, h2⟩, h3⟩ g
    match g with
    | 0 => exact h0
    | 1 => exact h1
    | 2 => exact h2
    | 3 => exact h3
  · exact fun h => ⟨⟨⟨h 0, h 1⟩, h 2⟩, h 3⟩

theorem tileM_le (x0 : Vec Ideal S512x3584 .fp8e4m3) (x1 : Vec Ideal S512x1 .f32) (x2 : Vec Ideal S3584x2048 .fp8e4m3)
    (x3 : Vec Ideal S1x2048 .f32) (r : Fin 512) (l : Fin 128) (B : EReal) :
    tileM x0 x1 x2 x3 (ix2 r l) ≤ B ↔ ∀ q : Fin 2048, q.val % 128 = l.val →
      mag (yAt (M := 512) (K := 3584) (N := 2048) x0 x1 x2 x3 r q) ≤ B := by
  unfold tileM
  show max (max (max (laneMax (chunkY x0 x1 x2 x3 0) (ix2 r l)) (laneMax (chunkY x0 x1 x2 x3 1) (ix2 r l)))
    (laneMax (chunkY x0 x1 x2 x3 2) (ix2 r l))) (laneMax (chunkY x0 x1 x2 x3 3) (ix2 r l)) ≤ B ↔ _
  simp only [max_le_iff, laneMax_le, chunkY_apply]
  have one : ∀ (p : Fin 4) (g : Fin 4), 512 * p.val + (128 * g.val + l.val) < 2048 := fun p g => by omega
  constructor
  · intro h q hq
    have all : ∀ p g : Fin 4, mag (yAt (M := 512) (K := 3584) (N := 2048) x0 x1 x2 x3 r ⟨512 * p.val + (128 * g.val + l.val), one p g⟩) ≤ B := by
      obtain ⟨⟨⟨h0, h1⟩, h2⟩, h3⟩ := h
      intro p g
      match p with
      | 0 => exact h0 g
      | 1 => exact h1 g
      | 2 => exact h2 g
      | 3 => exact h3 g
    have := all ⟨q.val / 512, by omega⟩ ⟨q.val % 512 / 128, by omega⟩
    rwa [show (⟨512 * (q.val / 512) + (128 * (q.val % 512 / 128) + l.val), one ⟨q.val / 512, by omega⟩ ⟨q.val % 512 / 128, by omega⟩⟩ : Fin 2048) = q
      from Fin.ext (by show 512 * (q.val / 512) + (128 * (q.val % 512 / 128) + l.val) = q.val; omega)] at this
  · intro h
    refine ⟨⟨⟨fun g => ?_, fun g => ?_⟩, fun g => ?_⟩, fun g => ?_⟩
    · exact h _ (by show (512 * 0 + (128 * g.val + l.val)) % 128 = l.val; omega)
    · exact h _ (by show (512 * 1 + (128 * g.val + l.val)) % 128 = l.val; omega)
    · exact h _ (by show (512 * 2 + (128 * g.val + l.val)) % 128 = l.val; omega)
    · exact h _ (by show (512 * 3 + (128 * g.val + l.val)) % 128 = l.val; omega)

/-- A row's maximum over its 128 lanes. -/
theorem pay44_le (a : Vec Ideal S512x128 .f32) (r : Fin 512) (B : EReal) :
    (k0_pay44 a (ix2 r (0 : Fin 1)) : EReal) ≤ B ↔ ∀ l : Fin 128, a (ix2 r l) ≤ B := by
  unfold k0_pay44
  have e : shapeCast S512x1 (multiReduction (F := Ideal) .maximumf [1] S512 a 0xFF800000#32 reduces_S512x128_S512 (.inl rfl) rfl)
      shapeCasts_S512_S512x1 (ix2 r (0 : Fin 1))
      = (Finset.univ : Finset (Fin 128)).fold max (FloatOps.ofBits (F := Ideal) .f32 0xFF800000#32) (fun l => a (ix2 r l)) := by
    refine (shapeCast_apply _ _ _ (ix1 r) ?_).trans ?_
    · rfl
    refine (Ideal.multiReduction_maximumf_single a _ _ _ _ _).trans ?_
    have hl : (fun l : Fin 128 => a (reduces_S512x128_S512.lift (ix1 r) l)) = fun l => a (ix2 r l) :=
      funext fun l => congrArg a (funext fun d => by
        match d with
        | ⟨0, _⟩ => rfl
        | ⟨1, _⟩ => rfl)
    exact congrArg (fun f : Fin 128 → EReal =>
      (Finset.univ : Finset (Fin 128)).fold max (FloatOps.ofBits (F := Ideal) .f32 0xFF800000#32) f) hl
  show (shapeCast S512x1 (multiReduction (F := Ideal) .maximumf [1] S512 a 0xFF800000#32 reduces_S512x128_S512 (.inl rfl) rfl)
      shapeCasts_S512_S512x1 (ix2 r (0 : Fin 1)) : EReal) ≤ B ↔ _
  rw [e, b_minf, Finset.fold_max_le]
  exact ⟨fun h l => h.2 l (Finset.mem_univ l), fun h => ⟨bot_le, fun l _ => h l⟩⟩

/-! ## Scales -/

/-- The exponent of row `r`, from the running maxima. -/
theorem expo_apply (a : Vec Ideal S512x128 .f32) (i : S512x1.Idx) : expo a i = kExpo (k0_pay44 a i) (over (k0_pay44 a i)) := rfl

theorem scaleOf_apply (a : Vec Ideal S512x128 .f32) (i : S512x1.Idx) : scaleOf a i = kPow (expo a i) := by
  unfold scaleOf k0_pay49
  rw [shapeCast_self]
  rfl

theorem invOf_apply (a : Vec Ideal S512x128 .f32) (i : S512x1.Idx) : invOf a i = kPow (IntOp.subi 0#32 (expo a i)) := by
  unfold invOf k0_pay11
  rw [shapeCast_self]
  rfl

/-! ## Codes -/

theorem codesOf_apply (v : Vec Ideal S512x1 .f32) (Y : Vec Ideal S512x2048 .f32) (r : Fin 512) (q : Fin 2048) :
    codesOf v Y (ix2 r q) = code (Y (ix2 r q)) (v (ix2 r (0 : Fin 1))) := by
  have hq : q.val / 512 < 4 := by omega
  unfold codesOf
  show k0_pay25 v (fun y : S1x512x512.Idx => Y (ix2 (y 1) ⟨512 * (q.val / 512) + (y 2).val, _⟩))
    (ix2 r (⟨q.val % 512, Nat.mod_lt _ (by norm_num)⟩ : Fin 512)) = _
  unfold k0_pay25
  have e : shapeCast S512x512 (fun y : S1x512x512.Idx => Y (ix2 (y 1) ⟨512 * (q.val / 512) + (y 2).val, by
      have : (y 2).val < 512 := (y 2).isLt; omega⟩)) shapeCasts_S1x512x512_S512x512 (ix2 r (⟨q.val % 512, Nat.mod_lt _ (by norm_num)⟩ : Fin 512))
      = Y (ix2 r q) := by
    refine (shapeCast_dropUnit_apply ![512, 512] _ _ _).trans (congrArg Y (funext fun a => Fin.ext ?_))
    match a with
    | ⟨0, _⟩ => rfl
    | ⟨1, _⟩ => show 512 * (q.val / 512) + q.val % 512 = q.val; omega
  have e1 : broadcastTo S512x512 v broadcasts_S512x1_S512x512 (ix2 r (⟨q.val % 512, Nat.mod_lt _ (by norm_num)⟩ : Fin 512)) = v (ix2 r (0 : Fin 1)) :=
    congrArg v (funext fun a => by match a with | ⟨0, _⟩ => rfl | ⟨1, _⟩ => rfl)
  rw [← e, ← e1]
  rfl

end Cert.KernelIdeal.Gen

end
-- ==== Proof.Arrays.lean ====
/- The kernel's two result arrays after its run, over the extended reals: the scales and the codes of the whole argument arrays. -/
module

public import proofs.«01_k».proof.Proof.Cert
public import proofs.«01_k».proof.Proof.TileValue
public import Idealize.ShloMosaic.Lib.Pipeline.Covers

@[expose] public section

set_option maxRecDepth 16384

noncomputable section

namespace Cert.KernelIdeal.Gen

open Idealize.ShloMosaic Idealize.ShloMosaic.TcCoe Idealize.SL.Sem
open Idealize.ShloMosaic.ValueIdx
open Idealize.ShloMosaic.Pipeline (Dat)
open Cert.Scales Cert.Spec

variable (m : (ℓ : Loc nD τ sig) → Buf (Elt Ideal) ℓ) (ρ : Dev nD → PrngReg)

/-! ## The arrays the kernel's call is given -/

/-- The activations, as rows. -/
def aX (c : Dev nD) : FVec Ideal ⟨2, ![32768, 3584]⟩ .fp8e4m3 := V m c main_v0
/-- The row scales. -/
def aS (c : Dev nD) : FVec Ideal ⟨2, ![32768, 1]⟩ .f32 := V m c main_v1
/-- The weights. -/
def aW (c : Dev nD) : FVec Ideal ⟨2, ![3584, 14336]⟩ .fp8e4m3 := V m c main_arg2
/-- The column scales. -/
def aU (c : Dev nD) : FVec Ideal ⟨2, ![1, 14336]⟩ .f32 := V m c main_arg3

/-- Entry `(r, q)` of the scaled product of the whole arrays. -/
abbrev yW (c : Dev nD) (r : Fin 32768) (q : Fin 14336) : EReal := yAt (aX m c) (aS m c) (aW m c) (aU m c) r q

/-! ## Which blocks a point is given -/

theorem index0 : ∀ t : Fin cfg0.N, t.val < 448 → win0_0.index t 0 = t.val / 7 ∧ win0_0.index t 1 = 0 :=
  (by decide +kernel : ∀ t : Fin grid0.N, t.val < 448 → win0_0.index t 0 = t.val / 7 ∧ win0_0.index t 1 = 0)
theorem index1 : ∀ t : Fin cfg0.N, t.val < 448 → win0_1.index t 0 = t.val / 7 ∧ win0_1.index t 1 = 0 :=
  (by decide +kernel : ∀ t : Fin grid0.N, t.val < 448 → win0_1.index t 0 = t.val / 7 ∧ win0_1.index t 1 = 0)
theorem index2 : ∀ t : Fin cfg0.N, t.val < 448 → win0_2.index t 0 = 0 ∧ win0_2.index t 1 = t.val % 7 :=
  (by decide +kernel : ∀ t : Fin grid0.N, t.val < 448 → win0_2.index t 0 = 0 ∧ win0_2.index t 1 = t.val % 7)
theorem index3 : ∀ t : Fin cfg0.N, t.val < 448 → win0_3.index t 0 = 0 ∧ win0_3.index t 1 = t.val % 7 :=
  (by decide +kernel : ∀ t : Fin grid0.N, t.val < 448 → win0_3.index t 0 = 0 ∧ win0_3.index t 1 = t.val % 7)
theorem index4 : ∀ t : Fin cfg0.N, win0_4.index t 0 = t.val / 7 - 1 ∧ win0_4.index t 1 = 0 :=
  (by decide +kernel : ∀ t : Fin grid0.N, win0_4.index t 0 = t.val / 7 - 1 ∧ win0_4.index t 1 = 0)
theorem index5 : ∀ t : Fin cfg0.N, 7 ≤ t.val → win0_5.index t 0 = t.val / 7 - 1 ∧ win0_5.index t 1 = t.val % 7 :=
  (by decide +kernel : ∀ t : Fin grid0.N, 7 ≤ t.val → win0_5.index t 0 = t.val / 7 - 1 ∧ win0_5.index t 1 = t.val % 7)

theorem rowLt {t : Fin cfg0.N} (h : t.val < 448) (r : Fin 512) : 512 * (t.val / 7) + r.val < 32768 := by omega
theorem colLt (t : Fin cfg0.N) (q : Fin 2048) : 2048 * (t.val % 7) + q.val < 14336 := by omega

theorem iblk0_apply (c : Dev nD) (t : Fin cfg0.N) (h : t.val < 448) (r : Fin 512) (k : Fin 3584) :
    (iblk m c 0 t : Vec Ideal S512x3584 .fp8e4m3) (ix2 r k) = aX m c (ix2 ⟨512 * (t.val / 7) + r.val, rowLt h r⟩ k) := by
  unfold iblk
  rw [View.read_apply]
  show V m c main_v0 _ = V m c main_v0 _
  congr 1
  funext a
  apply Fin.ext
  match a with
  | ⟨0, _⟩ => show win0_0.index t 0 * 512 + 1 * r.val = 512 * (t.val / 7) + r.val; rw [(index0 t h).1]; omega
  | ⟨1, _⟩ => show win0_0.index t 1 * 3584 + 1 * k.val = k.val; rw [(index0 t h).2]; omega

theorem iblk1_apply (c : Dev nD) (t : Fin cfg0.N) (h : t.val < 448) (r : Fin 512) :
    (iblk m c 1 t : Vec Ideal S512x1 .f32) (ix2 r (0 : Fin 1)) = aS m c (ix2 ⟨512 * (t.val / 7) + r.val, rowLt h r⟩ (0 : Fin 1)) := by
  unfold iblk
  rw [View.read_apply]
  show V m c main_v1 _ = V m c main_v1 _
  congr 1
  funext a
  apply Fin.ext
  match a with
  | ⟨0, _⟩ => show win0_1.index t 0 * 512 + 1 * r.val = 512 * (t.val / 7) + r.val; rw [(index1 t h).1]; omega
  | ⟨1, _⟩ => show win0_1.index t 1 * 1 + 1 * 0 = 0; rw [(index1 t h).2]

theorem iblk2_apply (c : Dev nD) (t : Fin cfg0.N) (h : t.val < 448) (k : Fin 3584) (q : Fin 2048) :
    (iblk m c 2 t : Vec Ideal S3584x2048 .fp8e4m3) (ix2 k q) = aW m c (ix2 k ⟨2048 * (t.val % 7) + q.val, colLt t q⟩) := by
  unfold iblk
  rw [View.read_apply]
  show V m c main_arg2 _ = V m c main_arg2 _
  congr 1
  funext a
  apply Fin.ext
  match a with
  | ⟨0, _⟩ => show win0_2.index t 0 * 3584 + 1 * k.val = k.val; rw [(index2 t h).1]; omega
  | ⟨1, _⟩ => show win0_2.index t 1 * 2048 + 1 * q.val = 2048 * (t.val % 7) + q.val; rw [(index2 t h).2]; omega

theorem iblk3_apply (c : Dev nD) (t : Fin cfg0.N) (h : t.val < 448) (q : Fin 2048) :
    (iblk m c 3 t : Vec Ideal S1x2048 .f32) (ix2 (0 : Fin 1) q) = aU m c (ix2 (0 : Fin 1) ⟨2048 * (t.val % 7) + q.val, colLt t q⟩) := by
  unfold iblk
  rw [View.read_apply]
  show V m c main_arg3 _ = V m c main_arg3 _
  congr 1
  funext a
  apply Fin.ext
  match a with
  | ⟨0, _⟩ => show win0_3.index t 0 * 1 + 1 * 0 = 0; rw [(index3 t h).1]
  | ⟨1, _⟩ => show win0_3.index t 1 * 2048 + 1 * q.val = 2048 * (t.val % 7) + q.val; rw [(index3 t h).2]; omega

/-- The product of a point's blocks is that part of the product of the arrays. -/
theorem yAt_blocks (c : Dev nD) (t : Fin cfg0.N) (h : t.val < 448) (r : Fin 512) (q : Fin 2048) :
    yAt (M := 512) (K := 3584) (N := 2048) (iblk m c 0 t) (iblk m c 1 t) (iblk m c 2 t) (iblk m c 3 t) r q
      = yW m c ⟨512 * (t.val / 7) + r.val, rowLt h r⟩ ⟨2048 * (t.val % 7) + q.val, colLt t q⟩ := by
  exact yAt_congr (fun k => iblk0_apply m c t h r k) (iblk1_apply m c t h r) (fun k => iblk2_apply m c t h k q) (iblk3_apply m c t h q)

theorem tY_apply (c : Dev nD) (t : Fin cfg0.N) (h : t.val < 448) (r : Fin 512) (q : Fin 2048) :
    tY m c t (ix2 r q) = yW m c ⟨512 * (t.val / 7) + r.val, rowLt h r⟩ ⟨2048 * (t.val % 7) + q.val, colLt t q⟩ :=
  (tileY_apply _ _ _ _ r q).trans (yAt_blocks m c t h r q)

/-! ## The row maxima -/

theorem tM_le (c : Dev nD) (t : Fin cfg0.N) (h : t.val < 448) (r : Fin 512) (l : Fin 128) (B : EReal) :
    tM m c t (ix2 r l) ≤ B ↔ ∀ q : Fin 14336, q.val / 2048 = t.val % 7 → q.val % 128 = l.val →
      mag (yW m c ⟨512 * (t.val / 7) + r.val, rowLt h r⟩ q) ≤ B := by
  unfold tM
  rw [tileM_le]
  constructor
  · intro hq q h1 h2
    have := hq ⟨q.val % 2048, Nat.mod_lt _ (by norm_num)⟩ (by show q.val % 2048 % 128 = l.val; omega)
    rw [yAt_blocks m c t h] at this
    rwa [show (⟨2048 * (t.val % 7) + q.val % 2048, colLt t ⟨q.val % 2048, Nat.mod_lt _ (by norm_num)⟩⟩ : Fin 14336) = q
      from Fin.ext (by show 2048 * (t.val % 7) + q.val % 2048 = q.val; omega)] at this
  · intro hq q h1
    rw [yAt_blocks m c t h]
    exact hq _ (by show (2048 * (t.val % 7) + q.val) / 2048 = t.val % 7; omega) (by show (2048 * (t.val % 7) + q.val) % 128 = l.val; omega)

/-- The running maxima after a point cover the columns of its row block's points so far. -/
theorem rm_le (c : Dev nD) (r : Fin 512) (l : Fin 128) (B : EReal) : ∀ (n : ℕ) (t : Fin cfg0.N) (hn : t.val = n) (h : t.val < 448),
    rm m c t (ix2 r l) ≤ B ↔ ∀ q : Fin 14336, q.val / 2048 ≤ t.val % 7 → q.val % 128 = l.val →
      mag (yW m c ⟨512 * (t.val / 7) + r.val, rowLt h r⟩ q) ≤ B
  | n, t, hn, h => by
    by_cases h0 : t.val % 7 = 0
    · rw [rm_first m c t h0, tM_le m c t h]
      exact ⟨fun hq q h1 h2 => hq q (by omega) h2, fun hq q h1 h2 => hq q (by omega) h2⟩
    · match n with
      | 0 => exact absurd (by rw [hn]) h0
      | n + 1 =>
        have hs : n < cfg0.N := by have := t.isLt; omega
        have e7 : n / 7 = t.val / 7 := by omega
        have row : (⟨512 * (n / 7) + r.val, rowLt (t := ⟨n, hs⟩) (show n < 448 by omega) r⟩ : Fin 32768) = ⟨512 * (t.val / 7) + r.val, rowLt h r⟩ :=
          Fin.ext (by show 512 * (n / 7) + r.val = 512 * (t.val / 7) + r.val; rw [e7])
        rw [rm_next m c ⟨n, hs⟩ t hn.symm h0]
        show max (rm m c ⟨n, hs⟩ (ix2 r l)) (tM m c t (ix2 r l)) ≤ B ↔ _
        rw [max_le_iff, rm_le c r l B n ⟨n, hs⟩ rfl (show n < 448 by omega), tM_le m c t h]
        constructor
        · rintro ⟨ha, hb⟩ q h1 h2
          by_cases hq : q.val / 2048 = t.val % 7
          · exact hb q hq h2
          · exact row ▸ ha q (by show q.val / 2048 ≤ n % 7; omega) h2
        · intro hq
          refine ⟨fun q h1 h2 => ?_, fun q h1 h2 => hq q (by omega) h2⟩
          have h1' : q.val / 2048 ≤ n % 7 := h1
          exact row.symm ▸ hq q (by omega) h2

/-- The maximum over the lanes at a row block's last point is the row's maximum. -/
theorem pay44_rm (c : Dev nD) (t : Fin cfg0.N) (h : t.val < 448) (h6 : t.val % 7 = 6) (r : Fin 512) :
    (k0_pay44 (rm m c t) (ix2 r (0 : Fin 1)) : EReal)
      = rowMax (aX m c) (aS m c) (aW m c) (aU m c) ⟨512 * (t.val / 7) + r.val, rowLt h r⟩ := by
  refine eq_of_forall_ge_iff fun B => ?_
  rw [pay44_le, rowMax_le]
  constructor
  · intro hl q
    exact (rm_le m c r ⟨q.val % 128, Nat.mod_lt _ (by norm_num)⟩ B _ t rfl h).mp (hl _) q (by omega) rfl
  · intro hq l
    exact (rm_le m c r l B _ t rfl h).mpr fun q _ _ => hq q

/-! ## What a point writes back -/

theorem prev_lt (t : Fin cfg0.N) (h : 7 ≤ t.val) : (prevEnd t).val < 448 ∧ (prevEnd t).val % 7 = 6 ∧ (prevEnd t).val / 7 = t.val / 7 - 1 := by
  have hN : t.val < 455 := lt_of_lt_of_eq t.isLt (show cfg0.N = 455 from N_0)
  show 7 * (t.val / 7) - 1 < 448 ∧ (7 * (t.val / 7) - 1) % 7 = 6 ∧ (7 * (t.val / 7) - 1) / 7 = t.val / 7 - 1
  omega

theorem back_lt (t : Fin cfg0.N) (h : 7 ≤ t.val) : (back t).val < 448 ∧ (back t).val % 7 = t.val % 7 ∧ (back t).val / 7 = t.val / 7 - 1 := by
  have hN : t.val < 455 := lt_of_lt_of_eq t.isLt (show cfg0.N = 455 from N_0)
  show t.val - 7 < 448 ∧ (t.val - 7) % 7 = t.val % 7 ∧ (t.val - 7) / 7 = t.val / 7 - 1
  omega

theorem outRow (t : Fin cfg0.N) (r : Fin 512) : 512 * (t.val / 7 - 1) + r.val < 32768 := by
  have hN : t.val < 455 := lt_of_lt_of_eq t.isLt (show cfg0.N = 455 from N_0)
  omega

theorem pay44_prev (c : Dev nD) (t : Fin cfg0.N) (h : 7 ≤ t.val) (r : Fin 512) :
    (k0_pay44 (rm m c (prevEnd t)) (ix2 r (0 : Fin 1)) : EReal)
      = rowMax (aX m c) (aS m c) (aW m c) (aU m c) ⟨512 * (t.val / 7 - 1) + r.val, outRow t r⟩ := by
  obtain ⟨h1, h2, h3⟩ := prev_lt t h
  rw [pay44_rm m c _ h1 h2 r]
  congr 1
  exact Fin.ext (by show 512 * ((prevEnd t).val / 7) + r.val = _; rw [h3])

theorem outScale_apply (c : Dev nD) (t : Fin cfg0.N) (h : 7 ≤ t.val) (r : Fin 512) :
    outScale m c t (ix2 r (0 : Fin 1)) = scaleAt (aX m c) (aS m c) (aW m c) (aU m c) ⟨512 * (t.val / 7 - 1) + r.val, outRow t r⟩ := by
  unfold outScale scaleAt
  rw [scaleOf_apply, expo_apply, pay44_prev m c t h r]
  exact (scale_agree _ _).1

theorem outCodes_apply (c : Dev nD) (t : Fin cfg0.N) (h : 7 ≤ t.val) (r : Fin 512) (q : Fin 2048) :
    outCodes m c t (ix2 r q) = codeAt (aX m c) (aS m c) (aW m c) (aU m c) ⟨512 * (t.val / 7 - 1) + r.val, outRow t r⟩
      ⟨2048 * (t.val % 7) + q.val, colLt t q⟩ := by
  obtain ⟨h1, h2, h3⟩ := back_lt t h
  unfold outCodes codeAt invAt
  rw [codesOf_apply, invOf_apply, expo_apply, pay44_prev m c t h r, tY_apply m c _ h1, (scale_agree _ _).2]
  congr 2
  · exact Fin.ext (by show 512 * ((back t).val / 7) + r.val = _; rw [h3])
  · exact Fin.ext (by show 2048 * ((back t).val % 7) + q.val = _; rw [h2])

/-! ## The result arrays -/

/-- The scales, as contents of the first result array. -/
abbrev gScale (c : Dev nD) : Buf (Elt Ideal) ((c : Thread nD τ).loc main_v2_0) := scales (aX m c) (aS m c) (aW m c) (aU m c)
/-- The codes, as contents of the second. -/
abbrev gCodes (c : Dev nD) : Buf (Elt Ideal) ((c : Thread nD τ).loc main_v2_1) := codes (aX m c) (aS m c) (aW m c) (aU m c)

theorem flush_late4 (t : Fin cfg0.N) (hf : (cfg0.win 4).flush t = true) : 7 ≤ t.val := by
  by_contra h
  rw [noflush4 t (by omega)] at hf
  exact absurd hf (by decide)

theorem flush_late5 (t : Fin cfg0.N) (hf : (cfg0.win 5).flush t = true) : 7 ≤ t.val := by
  by_contra h
  rw [noflush5 t (by omega)] at hf
  exact absurd hf (by decide)

theorem flushed4_eq (c : Dev nD) (t : Fin cfg0.N) (hf : (cfg0.win 4).flush t = true) :
    (dats m 0 c).flushed 4 t = ((cfg0.win 4).blk t).view.read (Elt Ideal) (gScale m c) := by
  have h := flush_late4 t hf
  show (cfg0.win 4).cut (grid0.coords t) ((dats m 0 c).after 4 t) = _
  rw [after0_4]
  funext y
  rw [View.read_apply]
  obtain ⟨r, z, rfl⟩ : ∃ (r : Fin 512) (z : Fin 1), y = ix2 r z := ⟨y 0, y 1, eq_ix2 y⟩
  obtain rfl : z = 0 := Subsingleton.elim _ _
  refine (outScale_apply m c t h r).trans ?_
  show _ = scaleAt (aX m c) (aS m c) (aW m c) (aU m c) _
  congr 1
  apply Fin.ext
  show 512 * (t.val / 7 - 1) + r.val = win0_4.index t 0 * 512 + 1 * r.val
  rw [(index4 t).1]; omega

theorem flushed5_eq (c : Dev nD) (t : Fin cfg0.N) (hf : (cfg0.win 5).flush t = true) :
    (dats m 0 c).flushed 5 t = ((cfg0.win 5).blk t).view.read (Elt Ideal) (gCodes m c) := by
  have h := flush_late5 t hf
  show (cfg0.win 5).cut (grid0.coords t) ((dats m 0 c).after 5 t) = _
  rw [after0_5]
  funext y
  rw [View.read_apply]
  obtain ⟨r, q, rfl⟩ : ∃ (r : Fin 512) (q : Fin 2048), y = ix2 r q := ⟨y 0, y 1, eq_ix2 y⟩
  refine (outCodes_apply m c t h r q).trans ?_
  show _ = codeAt (aX m c) (aS m c) (aW m c) (aU m c) _ _
  congr 1
  · apply Fin.ext
    show 512 * (t.val / 7 - 1) + r.val = win0_5.index t 0 * 512 + 1 * r.val
    rw [(index5 t h).1]; omega
  · apply Fin.ext
    show 2048 * (t.val % 7) + q.val = win0_5.index t 1 * 2048 + 1 * q.val
    rw [(index5 t h).2]; omega

theorem cover4 (i : S32768x1.Idx) : ∃ t : Fin cfg0.N, (cfg0.win 4).flush t = true ∧ i ∈ ((cfg0.win 4).blk t).view.set := by
  have h0 : (i 0).val < 32768 := (i 0).isLt
  have h1 : (i 1).val < 1 := (i 1).isLt
  have hlt : 7 * ((i 0).val / 512 + 1) < cfg0.N := lt_of_lt_of_eq (by omega) (show cfg0.N = 455 from N_0).symm
  obtain ⟨t, -, hf, hi⟩ := (cfg0.win 4).exists_flush_same_index rfl ⟨7 * ((i 0).val / 512 + 1), hlt⟩
  refine ⟨t, hf, ?_⟩
  have e0 : win0_4.index t 0 = (i 0).val / 512 :=
    (congrFun hi 0).trans ((index4 ⟨7 * ((i 0).val / 512 + 1), hlt⟩).1.trans (by show 7 * ((i 0).val / 512 + 1) / 7 - 1 = _; omega))
  have e1 : win0_4.index t 1 = 0 := (index4 t).2
  show i ∈ ((View.whole main_v2_0).slice (win0_4.rect t)).set
  rw [View.set_slice_whole, Rect.mem_set_unit]
  intro a
  match a with
  | ⟨0, _⟩ => show win0_4.index t 0 * 512 ≤ (i 0).val ∧ (i 0).val < win0_4.index t 0 * 512 + 512; rw [e0]; omega
  | ⟨1, _⟩ => show win0_4.index t 1 * 1 ≤ (i 1).val ∧ (i 1).val < win0_4.index t 1 * 1 + 1; rw [e1]; omega

theorem cover5 (i : S32768x14336.Idx) : ∃ t : Fin cfg0.N, (cfg0.win 5).flush t = true ∧ i ∈ ((cfg0.win 5).blk t).view.set := by
  have h0 : (i 0).val < 32768 := (i 0).isLt
  have h1 : (i 1).val < 14336 := (i 1).isLt
  have hlt : 7 * ((i 0).val / 512 + 1) + (i 1).val / 2048 < cfg0.N := lt_of_lt_of_eq (by omega) (show cfg0.N = 455 from N_0).symm
  obtain ⟨t, -, hf, hi⟩ := (cfg0.win 5).exists_flush_same_index rfl ⟨7 * ((i 0).val / 512 + 1) + (i 1).val / 2048, hlt⟩
  refine ⟨t, hf, ?_⟩
  have hx := index5 ⟨7 * ((i 0).val / 512 + 1) + (i 1).val / 2048, hlt⟩ (by show 7 ≤ 7 * ((i 0).val / 512 + 1) + (i 1).val / 2048; omega)
  have e0 : win0_5.index t 0 = (i 0).val / 512 :=
    (congrFun hi 0).trans (hx.1.trans (by show (7 * ((i 0).val / 512 + 1) + (i 1).val / 2048) / 7 - 1 = _; omega))
  have e1 : win0_5.index t 1 = (i 1).val / 2048 :=
    (congrFun hi 1).trans (hx.2.trans (by show (7 * ((i 0).val / 512 + 1) + (i 1).val / 2048) % 7 = _; omega))
  show i ∈ ((View.whole main_v2_1).slice (win0_5.rect t)).set
  rw [View.set_slice_whole, Rect.mem_set_unit]
  intro a
  match a with
  | ⟨0, _⟩ => show win0_5.index t 0 * 512 ≤ (i 0).val ∧ (i 0).val < win0_5.index t 0 * 512 + 512; rw [e0]; omega
  | ⟨1, _⟩ => show win0_5.index t 1 * 2048 ≤ (i 1).val ∧ (i 1).val < win0_5.index t 1 * 2048 + 2048; rw [e1]; omega

theorem final4 (c : Dev nD) : (dats m 0 c).arrAt 4 cfg0.N = gScale m c :=
  (dats m 0 c).arrAt_eq_of_cover 4 (gScale m c) (flushed4_eq m c) cover4

theorem final5 (c : Dev nD) : (dats m 0 c).arrAt 5 cfg0.N = gCodes m c :=
  (dats m 0 c).arrAt_eq_of_cover 5 (gCodes m c) (flushed5_eq m c) cover5

/-- The kernel's run: its results are the scales and the codes, its arguments unchanged. -/
theorem run_value : θ_run defs (onTc (τ := τ) (main (F := Ideal))) ⟨m, fun _ => 0, ρ⟩ fun r => ∀ c : Dev nD,
      r.2.mem ((c : Thread nD τ).loc main_v2_0) = gScale m c
      ∧ r.2.mem ((c : Thread nD τ).loc main_v2_1) = gCodes m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 4).trans (final4 m c), ((h c).1 5).trans (final5 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.Gen

end
-- ==== Proof.RefValue.lean ====
/- The reference's two result arrays after its run, over the extended reals: the same scales and codes of the whole argument arrays. -/
module

public import proofs.«01_k».proof.Proof.Gen.ReferenceIdeal.Frame
public import proofs.«01_k».proof.Proof.Spec
public import Idealize.ShloMosaic.Lib.MatmulPlain
public import Idealize.ShloMosaic.Lib.Pipeline.Value

@[expose] public section

set_option maxRecDepth 16384

noncomputable section

namespace Cert.ReferenceIdeal.Gen

open Idealize.ShloMosaic Idealize.ShloMosaic.TcCoe Idealize.SL.Sem
open Idealize.ShloMosaic.ValueIdx
open Idealize.ShloMosaic.Pipeline (Dat)
open Cert.Scales Cert.Spec

/-! ## The body's values, entry by entry -/

section
variable (X : Vec Ideal S32768x3584 .fp8e4m3) (s : Vec Ideal S32768x1 .f32) (W : Vec Ideal S3584x14336 .fp8e4m3) (u : Vec Ideal S1x14336 .f32)

theorem refY_apply (r : Fin 32768) (q : Fin 14336) :
    k0_pay3 X W s u (ix2 r q) = yAt (M := 32768) (K := 3584) (N := 14336) X s W u r q := by
  unfold k0_pay3
  rw [shapeCast_self, shapeCast_self]
  have e : FloatOps.matmul (F := Ideal) (φ₁ := .fp8e4m3) (φ₂ := .fp8e4m3) dot_S32768x3584_S3584x14336_S32768x14336_1_0_0_1_n_n none X W
      (constant S32768x14336 .f32 0x00000000#32) (ix2 r q) = ∑ k : Fin 3584, X (ix2 r k) * W (ix2 k q) := by
    refine (Ideal.matmul_plain_apply (M := 32768) (K := 3584) (N := 14336) none X W _ r q).trans ?_
    rw [show constant (F := Ideal) S32768x14336 .f32 0x00000000#32 (ix2 r q) = (0 : EReal) from b_zero, zero_add]
  have e1 : broadcastTo S32768x14336 s broadcasts_S32768x1_S32768x14336 (ix2 r q) = s (ix2 r (0 : Fin 1)) :=
    congrArg s (funext fun a => by match a with | ⟨0, _⟩ => rfl | ⟨1, _⟩ => rfl)
  have e3 : broadcastTo S32768x14336 u broadcasts_S1x14336_S32768x14336 (ix2 r q) = u (ix2 (0 : Fin 1) q) :=
    congrArg u (funext fun a => by match a with | ⟨0, _⟩ => rfl | ⟨1, _⟩ => rfl)
  show (FloatOps.matmul (F := Ideal) (φ₁ := .fp8e4m3) (φ₂ := .fp8e4m3) dot_S32768x3584_S3584x14336_S32768x14336_1_0_0_1_n_n none X W
      (constant S32768x14336 .f32 0x00000000#32) (ix2 r q) * broadcastTo S32768x14336 s broadcasts_S32768x1_S32768x14336 (ix2 r q))
      * broadcastTo S32768x14336 u broadcasts_S1x14336_S32768x14336 (ix2 r q) = _
  rw [e, e1, e3]
  rfl

/-- The row maxima the body takes, as a column. -/
def refMax : FVec Ideal S32768x1 .f32 :=
  shapeCast S32768x1 (multiReduction .maximumf [1] S32768 (absf (k0_pay3 X W s u)) 0xFF800000#32 reduces_S32768x14336_S32768 (.inl rfl) rfl)
    shapeCasts_S32768_S32768x1

theorem refMax_apply (r : Fin 32768) :
    (refMax X s W u (ix2 r (0 : Fin 1)) : EReal) = rowMax (M := 32768) (K := 3584) (N := 14336) X s W u r := by
  have e : refMax X s W u (ix2 r (0 : Fin 1))
      = multiReduction .maximumf [1] S32768 (absf (k0_pay3 X W s u)) 0xFF800000#32 reduces_S32768x14336_S32768 (.inl rfl) rfl (ix1 r) :=
    shapeCast_apply _ _ _ (ix1 r) (by rw [Shape.rowMajor_val_one, Shape.rowMajor_val_two]; show r.val = r.val * 1 + 0; omega)
  have e2 : multiReduction .maximumf [1] S32768 (absf (k0_pay3 X W s u)) 0xFF800000#32 reduces_S32768x14336_S32768 (.inl rfl) rfl (ix1 r)
      = (Finset.univ : Finset (Fin 14336)).fold max (FloatOps.ofBits (F := Ideal) .f32 0xFF800000#32)
          fun q : Fin 14336 => mag (yAt (M := 32768) (K := 3584) (N := 14336) X s W u r q) := by
    refine (Ideal.multiReduction_maximumf_single _ _ _ _ _ _).trans ?_
    have hl : (fun q : Fin 14336 => absf (k0_pay3 X W s u) (reduces_S32768x14336_S32768.lift (ix1 r) q))
        = fun q => mag (yAt (M := 32768) (K := 3584) (N := 14336) X s W u r q) := funext fun q => by
      rw [← refY_apply]
      exact congrArg (fun i => mag (k0_pay3 X W s u i)) (funext fun d => by
        match d with
        | ⟨0, _⟩ => rfl
        | ⟨1, _⟩ => rfl)
    exact congrArg (fun f : Fin 14336 → EReal =>
      (Finset.univ : Finset (Fin 14336)).fold max (FloatOps.ofBits (F := Ideal) .f32 0xFF800000#32) f) hl
  rw [e, e2, b_minf]
  rfl

/-- The exponent column of a column of row maxima. -/
def expoCol (v13 : FVec Ideal S32768x1 .f32) : FVec Ideal S32768x1 .f32 :=
  have v15 : FVec Ideal S32768x1 .f32 := mulf v13 (broadcast S32768x1 (Scalar.ofBits (F := Ideal) .f32 0x3B124925#32))
  have v19 : FVec Ideal S32768x1 .f32 := divf (log v15) (log (broadcast S32768x1 (Scalar.ofBits (F := Ideal) .f32 0x40000000#32)))
  have v24 : FVec Ideal S32768x1 .f32 := minimumf (addf (floor v19) (broadcast S32768x1 (Scalar.ofBits (F := Ideal) .f32 0x3F800000#32)))
    (broadcast S32768x1 (Scalar.ofBits (F := Ideal) .f32 0x43000000#32))
  have v29 : IVec S32768x1 1 := ori (cmpf .olt v15 (broadcast S32768x1 (Scalar.ofBits (F := Ideal) .f32 0x00800000#32)))
    (cmpf .oeq v15 (broadcast S32768x1 (Scalar.ofBits (F := Ideal) .f32 0x7F800000#32)))
  have v31 : FVec Ideal S32768x1 .f32 := select v29 (broadcast S32768x1 (Scalar.ofBits (F := Ideal) .f32 0x00000000#32)) v24
  select (cmpf .oeq v13 (broadcast S32768x1 (Scalar.ofBits (F := Ideal) .f32 0x00000000#32)))
    (broadcast S32768x1 (Scalar.ofBits (F := Ideal) .f32 0x00000000#32)) v31

theorem expoCol_apply (v : FVec Ideal S32768x1 .f32) (i : S32768x1.Idx) : expoCol v i = rExpo (v i) (over (v i)) := rfl

theorem pay4_eq : k0_pay4 X W s u = expoCol (refMax X s W u) := by
  unfold k0_pay4 expoCol refMax
  rfl

theorem refExpo_apply (r : Fin 32768) : k0_pay4 X W s u (ix2 r (0 : Fin 1))
    = rExpo (rowMax (M := 32768) (K := 3584) (N := 14336) X s W u r) (over (rowMax (M := 32768) (K := 3584) (N := 14336) X s W u r)) := by
  rw [pay4_eq, expoCol_apply, refMax_apply]

theorem pay1_apply (e : FVec Ideal S32768x1 .f32) (i : S32768x1.Idx) :
    k0_pay1 e (cmpf .olt e (broadcast S32768x1 (Scalar.ofBits (F := Ideal) .f32 0xC2FC0000#32))) (k0_pay6 (F := Ideal)) i = rPow (e i) := rfl

theorem refScale_apply (r : Fin 32768) : k0_pay1 (k0_pay4 X W s u) (k0_pay5 X W s u) (k0_pay6 (F := Ideal)) (ix2 r (0 : Fin 1))
    = scaleAt (M := 32768) (K := 3584) (N := 14336) X s W u r := by
  unfold scaleAt k0_pay5
  rw [← refExpo_apply]
  exact pay1_apply _ _

theorem pay2_apply (y : FVec Ideal S32768x14336 .f32) (e : FVec Ideal S32768x1 .f32) (r : Fin 32768) (q : Fin 14336) :
    k0_pay2 y e (ix2 r q) = code (y (ix2 r q)) (rPow (FloatOps.subf (F := Ideal) (φ := .f32)
      (FloatOps.ofBits .f32 0x00000000#32) (e (ix2 r (0 : Fin 1))))) :=
  congrArg (fun i => code (y (ix2 r q)) (rPow (FloatOps.subf (F := Ideal) (φ := .f32) (FloatOps.ofBits .f32 0x00000000#32) (e i))))
    (funext fun a => by match a with | ⟨0, _⟩ => rfl | ⟨1, _⟩ => rfl)

theorem refCodes_apply (r : Fin 32768) (q : Fin 14336) : k0_pay2 (k0_pay3 X W s u) (k0_pay4 X W s u) (ix2 r q)
    = codeAt (M := 32768) (K := 3584) (N := 14336) X s W u r q := by
  unfold codeAt invAt
  rw [pay2_apply, refExpo_apply, refY_apply]

theorem zero2 : (![0, 0] : Fin 2 → Nat) = fun _ => 0 := funext fun a => by fin_cases a <;> rfl

theorem out0_4_eq : out0_4 X s W u = scales (M := 32768) (K := 3584) (N := 14336) X s W u := by
  unfold out0_4 k0_pay7
  rw [View.canon_unit_zero zero2, View.ld_unit_zero zero2, View.ld_unit_zero zero2, View.ld_unit_zero zero2, View.ld_unit_zero zero2]
  funext y
  obtain ⟨r, z, rfl⟩ : ∃ (r : Fin 32768) (z : Fin 1), y = ix2 r z := ⟨y 0, y 1, eq_ix2 y⟩
  obtain rfl : z = 0 := Subsingleton.elim _ _
  exact refScale_apply X s W u r

theorem out0_5_eq : out0_5 X s W u = codes (M := 32768) (K := 3584) (N := 14336) X s W u := by
  unfold out0_5 k0_pay7
  rw [View.canon_unit_zero zero2, View.ld_unit_zero zero2, View.ld_unit_zero zero2, View.ld_unit_zero zero2, View.ld_unit_zero zero2]
  funext y
  obtain ⟨r, q, rfl⟩ : ∃ (r : Fin 32768) (q : Fin 14336), y = ix2 r q := ⟨y 0, y 1, eq_ix2 y⟩
  exact refCodes_apply X s W u r q

end

/-! ## The result arrays -/

variable (m : (ℓ : Loc nD τ sig) → Buf (Elt Ideal) ℓ) (ρ : Dev nD → PrngReg)

/-- The activations, as rows. -/
def aX (c : Dev nD) : FVec Ideal ⟨2, ![32768, 3584]⟩ .fp8e4m3 := V m c main_v0
/-- The row scales. -/
def aS (c : Dev nD) : FVec Ideal ⟨2, ![32768, 1]⟩ .f32 := V m c main_v1
/-- The weights. -/
def aW (c : Dev nD) : FVec Ideal ⟨2, ![3584, 14336]⟩ .fp8e4m3 := V m c main_arg2
/-- The column scales. -/
def aU (c : Dev nD) : FVec Ideal ⟨2, ![1, 14336]⟩ .f32 := V m c main_arg3

theorem iblk0_eq (c : Dev nD) (t : Fin cfg0.N) : (iblk m c 0 t : Vec Ideal S32768x3584 .fp8e4m3) = aX m c := by
  obtain rfl : t = t0_0 := fin_N0 t
  funext j
  unfold iblk
  rw [View.read_apply]
  show V m c main_v0 _ = V m c main_v0 _
  congr 1
  funext a
  apply Fin.ext
  match a with
  | ⟨0, _⟩ => show win0_0.index t0_0 0 * 32768 + 1 * (j 0).val = (j 0).val; rw [show win0_0.index t0_0 0 = 0 from rfl]; omega
  | ⟨1, _⟩ => show win0_0.index t0_0 1 * 3584 + 1 * (j 1).val = (j 1).val; rw [show win0_0.index t0_0 1 = 0 from rfl]; omega

theorem iblk1_eq (c : Dev nD) (t : Fin cfg0.N) : (iblk m c 1 t : Vec Ideal S32768x1 .f32) = aS m c := by
  obtain rfl : t = t0_0 := fin_N0 t
  funext j
  unfold iblk
  rw [View.read_apply]
  show V m c main_v1 _ = V m c main_v1 _
  congr 1
  funext a
  apply Fin.ext
  match a with
  | ⟨0, _⟩ => show win0_1.index t0_0 0 * 32768 + 1 * (j 0).val = (j 0).val; rw [show win0_1.index t0_0 0 = 0 from rfl]; omega
  | ⟨1, _⟩ => show win0_1.index t0_0 1 * 1 + 1 * (j 1).val = (j 1).val; rw [show win0_1.index t0_0 1 = 0 from rfl]; omega

theorem iblk2_eq (c : Dev nD) (t : Fin cfg0.N) : (iblk m c 2 t : Vec Ideal S3584x14336 .fp8e4m3) = aW m c := by
  obtain rfl : t = t0_0 := fin_N0 t
  funext j
  unfold iblk
  rw [View.read_apply]
  show V m c main_arg2 _ = V m c main_arg2 _
  congr 1
  funext a
  apply Fin.ext
  match a with
  | ⟨0, _⟩ => show win0_2.index t0_0 0 * 3584 + 1 * (j 0).val = (j 0).val; rw [show win0_2.index t0_0 0 = 0 from rfl]; omega
  | ⟨1, _⟩ => show win0_2.index t0_0 1 * 14336 + 1 * (j 1).val = (j 1).val; rw [show win0_2.index t0_0 1 = 0 from rfl]; omega

theorem iblk3_eq (c : Dev nD) (t : Fin cfg0.N) : (iblk m c 3 t : Vec Ideal S1x14336 .f32) = aU m c := by
  obtain rfl : t = t0_0 := fin_N0 t
  funext j
  unfold iblk
  rw [View.read_apply]
  show V m c main_arg3 _ = V m c main_arg3 _
  congr 1
  funext a
  apply Fin.ext
  match a with
  | ⟨0, _⟩ => show win0_3.index t0_0 0 * 1 + 1 * (j 0).val = (j 0).val; rw [show win0_3.index t0_0 0 = 0 from rfl]; omega
  | ⟨1, _⟩ => show win0_3.index t0_0 1 * 14336 + 1 * (j 1).val = (j 1).val; rw [show win0_3.index t0_0 1 = 0 from rfl]; omega

/-- The scales, as contents of the first result array. -/
abbrev gScale (c : Dev nD) : Buf (Elt Ideal) ((c : Thread nD τ).loc main_v2_0) := scales (aX m c) (aS m c) (aW m c) (aU m c)
/-- The codes, as contents of the second. -/
abbrev gCodes (c : Dev nD) : Buf (Elt Ideal) ((c : Thread nD τ).loc main_v2_1) := codes (aX m c) (aS m c) (aW m c) (aU m c)

theorem result4 (c : Dev nD) (t : Fin cfg0.N) : out0_4 (iblk m c 0 t) (iblk m c 1 t) (iblk m c 2 t) (iblk m c 3 t) = gScale m c := by
  rw [iblk0_eq, iblk1_eq, iblk2_eq, iblk3_eq]
  exact out0_4_eq _ _ _ _

theorem result5 (c : Dev nD) (t : Fin cfg0.N) : out0_5 (iblk m c 0 t) (iblk m c 1 t) (iblk m c 2 t) (iblk m c 3 t) = gCodes m c := by
  rw [iblk0_eq, iblk1_eq, iblk2_eq, iblk3_eq]
  exact out0_5_eq _ _ _ _

theorem flushed4_eq (c : Dev nD) (t : Fin cfg0.N) :
    (dats m 0 c).flushed 4 t = ((cfg0.win 4).blk t).view.read (Elt Ideal) (gScale m c) := by
  obtain rfl : t = t0_0 := fin_N0 t
  show (cfg0.win 4).cut (grid0.coords t0_0) ((dats m 0 c).after 4 t0_0) = _
  rw [after0_4, result4]
  funext y
  rw [View.read_apply]
  show gScale m c _ = gScale m c _
  congr 1
  funext a
  apply Fin.ext
  match a with
  | ⟨0, _⟩ => show (y 0).val = win0_4.index t0_0 0 * 32768 + 1 * (y 0).val; rw [show win0_4.index t0_0 0 = 0 from rfl]; omega
  | ⟨1, _⟩ => show (y 1).val = win0_4.index t0_0 1 * 1 + 1 * (y 1).val; rw [show win0_4.index t0_0 1 = 0 from rfl]; omega

theorem flushed5_eq (c : Dev nD) (t : Fin cfg0.N) :
    (dats m 0 c).flushed 5 t = ((cfg0.win 5).blk t).view.read (Elt Ideal) (gCodes m c) := by
  obtain rfl : t = t0_0 := fin_N0 t
  show (cfg0.win 5).cut (grid0.coords t0_0) ((dats m 0 c).after 5 t0_0) = _
  rw [after0_5, result5]
  funext y
  rw [View.read_apply]
  show gCodes m c _ = gCodes m c _
  congr 1
  funext a
  apply Fin.ext
  match a with
  | ⟨0, _⟩ => show (y 0).val = win0_5.index t0_0 0 * 32768 + 1 * (y 0).val; rw [show win0_5.index t0_0 0 = 0 from rfl]; omega
  | ⟨1, _⟩ => show (y 1).val = win0_5.index t0_0 1 * 14336 + 1 * (y 1).val; rw [show win0_5.index t0_0 1 = 0 from rfl]; omega

theorem cover4 (i : S32768x1.Idx) : ∃ t : Fin cfg0.N, (cfg0.win 4).flush t = true ∧ i ∈ ((cfg0.win 4).blk t).view.set := by
  have h0 : (i 0).val < 32768 := (i 0).isLt
  have h1 : (i 1).val < 1 := (i 1).isLt
  refine ⟨t0_0, flush0_4 t0_0, ?_⟩
  show i ∈ ((View.whole main_v2_0).slice (win0_4.rect t0_0)).set
  rw [View.set_slice_whole, Rect.mem_set_unit]
  intro a
  match a with
  | ⟨0, _⟩ => show win0_4.index t0_0 0 * 32768 ≤ (i 0).val ∧ (i 0).val < win0_4.index t0_0 0 * 32768 + 32768; rw [show win0_4.index t0_0 0 = 0 from rfl]; omega
  | ⟨1, _⟩ => show win0_4.index t0_0 1 * 1 ≤ (i 1).val ∧ (i 1).val < win0_4.index t0_0 1 * 1 + 1; rw [show win0_4.index t0_0 1 = 0 from rfl]; omega

theorem cover5 (i : S32768x14336.Idx) : ∃ t : Fin cfg0.N, (cfg0.win 5).flush t = true ∧ i ∈ ((cfg0.win 5).blk t).view.set := by
  have h0 : (i 0).val < 32768 := (i 0).isLt
  have h1 : (i 1).val < 14336 := (i 1).isLt
  refine ⟨t0_0, flush0_5 t0_0, ?_⟩
  show i ∈ ((View.whole main_v2_1).slice (win0_5.rect t0_0)).set
  rw [View.set_slice_whole, Rect.mem_set_unit]
  intro a
  match a with
  | ⟨0, _⟩ => show win0_5.index t0_0 0 * 32768 ≤ (i 0).val ∧ (i 0).val < win0_5.index t0_0 0 * 32768 + 32768; rw [show win0_5.index t0_0 0 = 0 from rfl]; omega
  | ⟨1, _⟩ => show win0_5.index t0_0 1 * 14336 ≤ (i 1).val ∧ (i 1).val < win0_5.index t0_0 1 * 14336 + 14336; rw [show win0_5.index t0_0 1 = 0 from rfl]; omega

theorem final4 (c : Dev nD) : (dats m 0 c).arrAt 4 cfg0.N = gScale m c :=
  (dats m 0 c).arrAt_eq_of_cover 4 (gScale m c) (fun t _ => flushed4_eq m c t) cover4

theorem final5 (c : Dev nD) : (dats m 0 c).arrAt 5 cfg0.N = gCodes m c :=
  (dats m 0 c).arrAt_eq_of_cover 5 (gCodes m c) (fun t _ => flushed5_eq m c t) cover5

/-- The reference's run: its results are the scales and the codes, its arguments unchanged. -/
theorem run_value : θ_run defs (onTc (τ := τ) (main (F := Ideal))) ⟨m, fun _ => 0, ρ⟩ fun r => ∀ c : Dev nD,
      r.2.mem ((c : Thread nD τ).loc main_v2_0) = gScale m c
      ∧ r.2.mem ((c : Thread nD τ).loc main_v2_1) = gCodes m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 4).trans (final4 m c), ((h c).1 5).trans (final5 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.ReferenceIdeal.Gen

end
-- ==== Proof.Joint.lean ====
/- From equal arguments the kernel and the reference end with equal results. -/
module

public import proofs.«01_k».proof.Defs
public import proofs.«01_k».proof.Proof.Arrays
public import proofs.«01_k».proof.Proof.RefValue
public import Idealize.ShloMosaic.Lib.Claim

@[expose] public section

set_option maxRecDepth 16384

noncomputable section

namespace Cert.KernelIdeal.Gen

open Idealize.ShloMosaic Idealize.ShloMosaic.TcCoe Idealize.SL.Sem

variable (m : (ℓ : Loc nD τ sig) → Buf (Elt Ideal) ℓ)

/-- The activations the kernel's call is given are the first argument, reshaped to rows. -/
theorem aX_eq (c : Dev nD) : aX m c = shapeCast S32768x3584 (m ((c : Thread nD τ).loc main_arg0)) shapeCasts_S8x4096x3584_S32768x3584 := by
  show V m c main_v0 = _
  entry_read
  rfl

/-- The row scales it is given are the second argument, reshaped likewise. -/
theorem aS_eq (c : Dev nD) : aS m c = shapeCast S32768x1 (m ((c : Thread nD τ).loc main_arg1)) shapeCasts_S8x4096x1_S32768x1 := by
  show V m c main_v1 = _
  entry_read
  rfl

end Cert.KernelIdeal.Gen

namespace Cert.ReferenceIdeal.Gen

open Idealize.ShloMosaic Idealize.ShloMosaic.TcCoe Idealize.SL.Sem

variable (m : (ℓ : Loc nD τ sig) → Buf (Elt Ideal) ℓ)

/-- The activations the reference's call is given are the first argument, reshaped to rows. -/
theorem aX_eq (c : Dev nD) : aX m c = shapeCast S32768x3584 (m ((c : Thread nD τ).loc main_arg0)) shapeCasts_S8x4096x3584_S32768x3584 := by
  show V m c main_v0 = _
  entry_read
  rfl

/-- The row scales it is given are the second argument, reshaped likewise. -/
theorem aS_eq (c : Dev nD) : aS m c = shapeCast S32768x1 (m ((c : Thread nD τ).loc main_arg1)) shapeCasts_S8x4096x1_S32768x1 := by
  show V m c main_v1 = _
  entry_read
  rfl

end Cert.ReferenceIdeal.Gen

namespace Cert.Joint

open Idealize.ShloMosaic Idealize.ShloMosaic.TcCoe Idealize.SL.Sem

/-- The equality of the two programs' results. -/
theorem algebraic : algebraic_KernelIdeal_ReferenceIdeal (hKernelIdeal := Cert.KernelIdeal.Gen.facts)
    (hReferenceIdeal := Cert.ReferenceIdeal.Gen.facts) := by
  intro m g m' g' _ hagree
  have eX : ∀ c : Dev Cert.KernelIdeal.nD, Cert.ReferenceIdeal.Gen.aX m' c = Cert.KernelIdeal.Gen.aX m c := fun c =>
    (Cert.ReferenceIdeal.Gen.aX_eq m' c).trans
      ((congrArg (fun a => shapeCast Cert.KernelIdeal.S32768x3584 a Cert.KernelIdeal.Facts₀.shapeCasts_S8x4096x3584_S32768x3584) (hagree c).1).trans
        (Cert.KernelIdeal.Gen.aX_eq m c).symm)
  have eS : ∀ c : Dev Cert.KernelIdeal.nD, Cert.ReferenceIdeal.Gen.aS m' c = Cert.KernelIdeal.Gen.aS m c := fun c =>
    (Cert.ReferenceIdeal.Gen.aS_eq m' c).trans
      ((congrArg (fun a => shapeCast Cert.KernelIdeal.S32768x1 a Cert.KernelIdeal.Facts₀.shapeCasts_S8x4096x1_S32768x1) (hagree c).2.1).trans
        (Cert.KernelIdeal.Gen.aS_eq m c).symm)
  have eW : ∀ c : Dev Cert.KernelIdeal.nD, Cert.ReferenceIdeal.Gen.aW m' c = Cert.KernelIdeal.Gen.aW m c := fun c =>
    (Cert.ReferenceIdeal.Gen.V_main_arg2 m' c).trans ((hagree c).2.2.1.trans (Cert.KernelIdeal.Gen.V_main_arg2 m c).symm)
  have eU : ∀ c : Dev Cert.KernelIdeal.nD, Cert.ReferenceIdeal.Gen.aU m' c = Cert.KernelIdeal.Gen.aU m c := fun c =>
    (Cert.ReferenceIdeal.Gen.V_main_arg3 m' c).trans ((hagree c).2.2.2.trans (Cert.KernelIdeal.Gen.V_main_arg3 m c).symm)
  have e4 : ∀ c : Dev Cert.KernelIdeal.nD, Cert.ReferenceIdeal.Gen.gScale m' c = Cert.KernelIdeal.Gen.gScale m c := fun c => by
    show Cert.Spec.scales _ _ _ _ = Cert.Spec.scales _ _ _ _
    rw [eX, eS, eW, eU]
  have e5 : ∀ c : Dev Cert.KernelIdeal.nD, Cert.ReferenceIdeal.Gen.gCodes m' c = Cert.KernelIdeal.Gen.gCodes m c := fun c => by
    show Cert.Spec.codes _ _ _ _ = Cert.Spec.codes _ _ _ _
    rw [eX, eS, eW, eU]
  exact ⟨Cert.KernelIdeal.Gen.gScale m, Cert.KernelIdeal.Gen.gCodes m, Cert.KernelIdeal.Gen.run_value m g,
    (θ_run _ _ _).mono (fun r h c => ⟨(h c).1.trans (e4 c), (h c).2.1.trans (e5 c), (h c).2.2⟩) (Cert.ReferenceIdeal.Gen.run_value m' g')⟩

end Cert.Joint

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Cert
public import proofs.«01_k».proof.Proof.KernelFrame
public import proofs.«01_k».proof.Proof.Joint
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, fun m ρ _ => Cert.Kernel.Gen.frame m ρ,
  fun m ρ _ => Cert.KernelIdeal.Gen.frame m ρ, fun m ρ _ => Cert.ReferenceIdeal.Gen.frame m ρ, trivial, Cert.Joint.algebraic⟩

end Cert.Proof

end
